-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)

variable [Facts]

def fn {F : FTy → Type} [FloatOps F] (main_arg0 : FVec F S512x1024 .f32) (main_arg1 : FVec F S1024x16384 .f32) : IVec S512x1024 1 × IVec S1024x16384 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  (main_v2, main_v5)
-- ==== Kernel.lean ====
abbrev S512x1024 : Shape := ⟨2, ![512, 1024]⟩
abbrev S1024x8192 : Shape := ⟨2, ![1024, 8192]⟩
abbrev S512x16384 : Shape := ⟨2, ![512, 16384]⟩
abbrev S512x256 : Shape := ⟨2, ![512, 256]⟩
abbrev S16x32x8192 : Shape := ⟨3, ![16, 32, 8192]⟩
abbrev S16x32x256 : Shape := ⟨3, ![16, 32, 256]⟩
abbrev S16 : Shape := ⟨1, ![16]⟩
abbrev S4 : Shape := ⟨1, ![4]⟩
abbrev S2 : Shape := ⟨1, ![2]⟩
abbrev S_ : Shape := ⟨0, ![]⟩
abbrev S128x1024 : Shape := ⟨2, ![128, 1024]⟩
abbrev S128x8192 : Shape := ⟨2, ![128, 8192]⟩
abbrev S128 : Shape := ⟨1, ![128]⟩
abbrev S128x1 : Shape := ⟨2, ![128, 1]⟩
abbrev S32x8192 : Shape := ⟨2, ![32, 8192]⟩
abbrev S1x32x8192 : Shape := ⟨3, ![1, 32, 8192]⟩
abbrev S32x1 : Shape := ⟨2, ![32, 1]⟩
abbrev S32x128 : Shape := ⟨2, ![32, 128]⟩
abbrev S32x256 : Shape := ⟨2, ![32, 256]⟩
abbrev S1x32x256 : Shape := ⟨3, ![1, 32, 256]⟩
abbrev S1 : Shape := ⟨1, ![1]⟩
abbrev S16x32x1 : Shape := ⟨3, ![16, 32, 1]⟩
abbrev S16x32x128 : Shape := ⟨3, ![16, 32, 128]⟩
abbrev S128x16384 : Shape := ⟨2, ![128, 16384]⟩
abbrev S128x256 : Shape := ⟨2, ![128, 256]⟩

abbrev nBuf : Space → Nat
  | .hbm => 5
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .bf16⟩
  | .hbm, ⟨3, _⟩ => ⟨S512x256, .f32⟩
  | .hbm, ⟨4, _⟩ => ⟨S512x16384, .f32⟩
  | .local _ .vmem, ⟨0, _⟩ => ⟨S512x1024, .f32⟩
  | .local _ .vmem, ⟨1, _⟩ => ⟨S1024x8192, .f32⟩
  | .local _ .vmem, ⟨2, _⟩ => ⟨S512x256, .f32⟩
  | .local _ .vmem, ⟨3, _⟩ => ⟨S16x32x8192, .bf16⟩
  | .local _ .vmem, ⟨4, _⟩ => ⟨S16x32x256, .f32⟩
  | .local _ .vmem, ⟨5, _⟩ => ⟨S16x32x256, .f32⟩
  | .local _ .vmem, ⟨6, _⟩ => ⟨S128x16384, .bf16⟩
  | .local _ .vmem, ⟨7, _⟩ => ⟨S128x16384, .bf16⟩
  | .local _ .vmem, ⟨8, _⟩ => ⟨S128x256, .f32⟩
  | .local _ .vmem, ⟨9, _⟩ => ⟨S128x256, .f32⟩
  | .local _ .vmem, ⟨10, _⟩ => ⟨S128x16384, .f32⟩
  | .local _ .vmem, ⟨11, _⟩ => ⟨S128x16384, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  (ofTc nBuf bufTy 1 89 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 83
abbrev cc1_sem0_1 : DmaSem sig := 84
abbrev cc1_sem1_0 : DmaSem sig := 85
abbrev cc1_sem1_1 : DmaSem sig := 86
abbrev cc1_sem2_0 : DmaSem sig := 87
abbrev cc1_sem2_1 : DmaSem sig := 88
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v19 : BitVec 32 := Scalar.muli v2 c8_i32_10
  let v20 : BitVec 32 := Scalar.addi c0_i32 v19
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_11 : BitVec 32 := 4#32
  let v21 : BitVec 32 := Scalar.muli v13 c4_i32_11
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v23 : BitVec 32 := Scalar.muli v8 c1_i32_12
  let v24 : BitVec 32 := Scalar.addi v22 v23
  v24.toNat
def k0_dev2 (d0 : Dev nD) : Nat :=
  let c0_i32_15 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_14 : BitVec 32 := 8#32
  let v25 : BitVec 32 := Scalar.muli v14 c8_i32_14
  let v26 : BitVec 32 := Scalar.addi c0_i32_15 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_16 : BitVec 32 := 4#32
  let v27 : BitVec 32 := Scalar.muli v5 c4_i32_16
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v29 : BitVec 32 := Scalar.muli v8 c1_i32_17
  let v30 : BitVec 32 := Scalar.addi v28 v29
  v30.toNat
def k0_dev3 (d0 : Dev nD) : Nat :=
  let c0_i32_20 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_19 : BitVec 32 := 8#32
  let v31 : BitVec 32 := Scalar.muli v2 c8_i32_19
  let v32 : BitVec 32 := Scalar.addi c0_i32_20 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v33 : BitVec 32 := Scalar.muli v5 c4_i32_21
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_22 : BitVec 32 := 1#32
  let v35 : BitVec 32 := Scalar.muli v12 c1_i32_22
  let v36 : BitVec 32 := Scalar.addi v34 v35
  v36.toNat
def k0_dev4 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v64 : BitVec 32 := Scalar.muli v2 c8_i32_38
  let v65 : BitVec 32 := Scalar.addi c0_i32_39 v64
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_40 : BitVec 32 := 4#32
  let v66 : BitVec 32 := Scalar.muli v13 c4_i32_40
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v68 : BitVec 32 := Scalar.muli v8 c1_i32_41
  let v69 : BitVec 32 := Scalar.addi v67 v68
  v69.toNat
def k0_off1 (d0 : Dev nD) : Fin 2 → Nat :=
  let c0_i32_48 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![0, v15.toNat]
def k0_dev5 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v97 : BitVec 32 := Scalar.muli v2 c8_i32_60
  let v98 : BitVec 32 := Scalar.addi c0_i32_61 v97
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_62 : BitVec 32 := 4#32
  let v99 : BitVec 32 := Scalar.muli v13 c4_i32_62
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v101 : BitVec 32 := Scalar.muli v8 c1_i32_63
  let v102 : BitVec 32 := Scalar.addi v100 v101
  v102.toNat
def k0_off2 (d0 : Dev nD) : Fin 2 → Nat :=
  let c32_i32 : BitVec 32 := 32#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![32, v15.toNat]
def k0_dev6 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v130 : BitVec 32 := Scalar.muli v2 c8_i32_81
  let v131 : BitVec 32 := Scalar.addi c0_i32_82 v130
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_83 : BitVec 32 := 4#32
  let v132 : BitVec 32 := Scalar.muli v13 c4_i32_83
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v134 : BitVec 32 := Scalar.muli v8 c1_i32_84
  let v135 : BitVec 32 := Scalar.addi v133 v134
  v135.toNat
def k0_off3 (d0 : Dev nD) : Fin 2 → Nat :=
  let c64_i32 : BitVec 32 := 64#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![64, v15.toNat]
def k0_dev7 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v163 : BitVec 32 := Scalar.muli v2 c8_i32_102
  let v164 : BitVec 32 := Scalar.addi c0_i32_103 v163
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_104 : BitVec 32 := 4#32
  let v165 : BitVec 32 := Scalar.muli v13 c4_i32_104
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v167 : BitVec 32 := Scalar.muli v8 c1_i32_105
  let v168 : BitVec 32 := Scalar.addi v166 v167
  v168.toNat
def k0_off4 (d0 : Dev nD) : Fin 2 → Nat :=
  let c96_i32 : BitVec 32 := 96#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![96, v15.toNat]
def k0_off5 (d0 : Dev nD) (c0_i32_115 : BitVec 32) : Fin 2 → Nat :=
  let c2_i32_114 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v182 : BitVec 32 := Scalar.muli c2_i32_114 v9
  let v183 : BitVec 32 := Scalar.addi c0_i32_115 v182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v184 : BitVec 32 := Scalar.addi v183 v2
  let c32_i32_116 : BitVec 32 := 32#32
  let v185 : BitVec 32 := Scalar.muli v184 c32_i32_116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![v185.toNat, v15.toNat]
def k0_off6 (d0 : Dev nD) (c0_i32_115 : BitVec 32) : Fin 3 → Nat :=
  let c2_i32_114 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v182 : BitVec 32 := Scalar.muli c2_i32_114 v9
  let v183 : BitVec 32 := Scalar.addi c0_i32_115 v182
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v184 : BitVec 32 := Scalar.addi v183 v2
  let c0_i32_123 : BitVec 32 := 0#32
  let c0_i32_124 : BitVec 32 := 0#32
  ![v184.toNat, 0, 0]
def k0_dev8 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v186 : BitVec 32 := Scalar.muli v2 c8_i32_119
  let v187 : BitVec 32 := Scalar.addi c0_i32_120 v186
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_121 : BitVec 32 := 4#32
  let v188 : BitVec 32 := Scalar.muli v13 c4_i32_121
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v190 : BitVec 32 := Scalar.muli v8 c1_i32_122
  let v191 : BitVec 32 := Scalar.addi v189 v190
  v191.toNat
def k0_dev9 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v226 : BitVec 32 := Scalar.muli v2 c8_i32_140
  let v227 : BitVec 32 := Scalar.addi c0_i32_141 v226
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_142 : BitVec 32 := 4#32
  let v228 : BitVec 32 := Scalar.muli v13 c4_i32_142
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v230 : BitVec 32 := Scalar.muli v8 c1_i32_143
  let v231 : BitVec 32 := Scalar.addi v229 v230
  v231.toNat
def k0_off7 (d0 : Dev nD) : Fin 2 → Nat :=
  let c128_i32 : BitVec 32 := 128#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![128, v15.toNat]
def k0_dev10 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v259 : BitVec 32 := Scalar.muli v2 c8_i32_160
  let v260 : BitVec 32 := Scalar.addi c0_i32_161 v259
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_162 : BitVec 32 := 4#32
  let v261 : BitVec 32 := Scalar.muli v13 c4_i32_162
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v263 : BitVec 32 := Scalar.muli v8 c1_i32_163
  let v264 : BitVec 32 := Scalar.addi v262 v263
  v264.toNat
def k0_off8 (d0 : Dev nD) : Fin 2 → Nat :=
  let c160_i32 : BitVec 32 := 160#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![160, v15.toNat]
def k0_dev11 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v292 : BitVec 32 := Scalar.muli v2 c8_i32_180
  let v293 : BitVec 32 := Scalar.addi c0_i32_181 v292
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_182 : BitVec 32 := 4#32
  let v294 : BitVec 32 := Scalar.muli v13 c4_i32_182
  let v295 : BitVec 32 := Scalar.addi v293 v294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v296 : BitVec 32 := Scalar.muli v8 c1_i32_183
  let v297 : BitVec 32 := Scalar.addi v295 v296
  v297.toNat
def k0_off9 (d0 : Dev nD) : Fin 2 → Nat :=
  let c192_i32 : BitVec 32 := 192#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![192, v15.toNat]
def k0_dev12 (d0 : Dev nD) : Nat :=
  let c0_i32_201 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_200 : BitVec 32 := 8#32
  let v325 : BitVec 32 := Scalar.muli v2 c8_i32_200
  let v326 : BitVec 32 := Scalar.addi c0_i32_201 v325
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_202 : BitVec 32 := 4#32
  let v327 : BitVec 32 := Scalar.muli v13 c4_i32_202
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v329 : BitVec 32 := Scalar.muli v8 c1_i32_203
  let v330 : BitVec 32 := Scalar.addi v328 v329
  v330.toNat
def k0_off10 (d0 : Dev nD) : Fin 2 → Nat :=
  let c224_i32 : BitVec 32 := 224#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![224, v15.toNat]
def k0_dev13 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v348 : BitVec 32 := Scalar.muli v2 c8_i32_217
  let v349 : BitVec 32 := Scalar.addi c0_i32_218 v348
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_219 : BitVec 32 := 4#32
  let v350 : BitVec 32 := Scalar.muli v13 c4_i32_219
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v352 : BitVec 32 := Scalar.muli v8 c1_i32_220
  let v353 : BitVec 32 := Scalar.addi v351 v352
  v353.toNat
def k0_off11 (d0 : Dev nD) (c0_i32_235 : BitVec 32) : Fin 2 → Nat :=
  let c2_i32_234 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v376 : BitVec 32 := Scalar.muli c2_i32_234 v9
  let v377 : BitVec 32 := Scalar.addi c0_i32_235 v376
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v378 : BitVec 32 := Scalar.addi v377 v2
  let c32_i32_236 : BitVec 32 := 32#32
  let v379 : BitVec 32 := Scalar.muli v378 c32_i32_236
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v16 : BitVec 32 := Scalar.subi c1_i32_7 v5
  let c8192_i32_8 : BitVec 32 := 8192#32
  let v17 : BitVec 32 := Scalar.muli v16 c8192_i32_8
  ![v379.toNat, v17.toNat]
def k0_dev14 (d0 : Dev nD) : Nat :=
  let c0_i32_240 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_239 : BitVec 32 := 8#32
  let v380 : BitVec 32 := Scalar.muli v14 c8_i32_239
  let v381 : BitVec 32 := Scalar.addi c0_i32_240 v380
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_241 : BitVec 32 := 4#32
  let v382 : BitVec 32 := Scalar.muli v5 c4_i32_241
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v384 : BitVec 32 := Scalar.muli v8 c1_i32_242
  let v385 : BitVec 32 := Scalar.addi v383 v384
  v385.toNat
def k0_dev15 (d0 : Dev nD) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_248 : BitVec 32 := 8#32
  let v396 : BitVec 32 := Scalar.muli v2 c8_i32_248
  let v397 : BitVec 32 := Scalar.addi c0_i32_249 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v398 : BitVec 32 := Scalar.muli v5 c4_i32_250
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_251 : BitVec 32 := 1#32
  let v400 : BitVec 32 := Scalar.muli v12 c1_i32_251
  let v401 : BitVec 32 := Scalar.addi v399 v400
  v401.toNat
def k0_dev16 (d0 : Dev nD) : Nat :=
  let c0_i32_268 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_267 : BitVec 32 := 8#32
  let v435 : BitVec 32 := Scalar.muli v2 c8_i32_267
  let v436 : BitVec 32 := Scalar.addi c0_i32_268 v435
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_269 : BitVec 32 := 4#32
  let v437 : BitVec 32 := Scalar.muli v13 c4_i32_269
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v439 : BitVec 32 := Scalar.muli v8 c1_i32_270
  let v440 : BitVec 32 := Scalar.addi v438 v439
  v440.toNat
def k0_off12 (d0 : Dev nD) : Fin 2 → Nat :=
  let c256_i32 : BitVec 32 := 256#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![256, v15.toNat]
def k0_dev17 (d0 : Dev nD) : Nat :=
  let c0_i32_288 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_287 : BitVec 32 := 8#32
  let v468 : BitVec 32 := Scalar.muli v2 c8_i32_287
  let v469 : BitVec 32 := Scalar.addi c0_i32_288 v468
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_289 : BitVec 32 := 4#32
  let v470 : BitVec 32 := Scalar.muli v13 c4_i32_289
  let v471 : BitVec 32 := Scalar.addi v469 v470
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v472 : BitVec 32 := Scalar.muli v8 c1_i32_290
  let v473 : BitVec 32 := Scalar.addi v471 v472
  v473.toNat
def k0_off13 (d0 : Dev nD) : Fin 2 → Nat :=
  let c288_i32 : BitVec 32 := 288#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![288, v15.toNat]
def k0_dev18 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v501 : BitVec 32 := Scalar.muli v2 c8_i32_307
  let v502 : BitVec 32 := Scalar.addi c0_i32_308 v501
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_309 : BitVec 32 := 4#32
  let v503 : BitVec 32 := Scalar.muli v13 c4_i32_309
  let v504 : BitVec 32 := Scalar.addi v502 v503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v505 : BitVec 32 := Scalar.muli v8 c1_i32_310
  let v506 : BitVec 32 := Scalar.addi v504 v505
  v506.toNat
def k0_off14 (d0 : Dev nD) : Fin 2 → Nat :=
  let c320_i32 : BitVec 32 := 320#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![320, v15.toNat]
def k0_dev19 (d0 : Dev nD) : Nat :=
  let c0_i32_328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_327 : BitVec 32 := 8#32
  let v534 : BitVec 32 := Scalar.muli v2 c8_i32_327
  let v535 : BitVec 32 := Scalar.addi c0_i32_328 v534
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_329 : BitVec 32 := 4#32
  let v536 : BitVec 32 := Scalar.muli v13 c4_i32_329
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v538 : BitVec 32 := Scalar.muli v8 c1_i32_330
  let v539 : BitVec 32 := Scalar.addi v537 v538
  v539.toNat
def k0_off15 (d0 : Dev nD) : Fin 2 → Nat :=
  let c352_i32 : BitVec 32 := 352#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![352, v15.toNat]
def k0_dev20 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v557 : BitVec 32 := Scalar.muli v2 c8_i32_344
  let v558 : BitVec 32 := Scalar.addi c0_i32_345 v557
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_346 : BitVec 32 := 4#32
  let v559 : BitVec 32 := Scalar.muli v13 c4_i32_346
  let v560 : BitVec 32 := Scalar.addi v558 v559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v561 : BitVec 32 := Scalar.muli v8 c1_i32_347
  let v562 : BitVec 32 := Scalar.addi v560 v561
  v562.toNat
def k0_dev21 (d0 : Dev nD) : Nat :=
  let c0_i32_367 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_366 : BitVec 32 := 8#32
  let v589 : BitVec 32 := Scalar.muli v14 c8_i32_366
  let v590 : BitVec 32 := Scalar.addi c0_i32_367 v589
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_368 : BitVec 32 := 4#32
  let v591 : BitVec 32 := Scalar.muli v5 c4_i32_368
  let v592 : BitVec 32 := Scalar.addi v590 v591
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_369 : BitVec 32 := 1#32
  let v593 : BitVec 32 := Scalar.muli v8 c1_i32_369
  let v594 : BitVec 32 := Scalar.addi v592 v593
  v594.toNat
def k0_dev22 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v605 : BitVec 32 := Scalar.muli v2 c8_i32_375
  let v606 : BitVec 32 := Scalar.addi c0_i32_376 v605
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_377 : BitVec 32 := 4#32
  let v607 : BitVec 32 := Scalar.muli v5 c4_i32_377
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_378 : BitVec 32 := 1#32
  let v609 : BitVec 32 := Scalar.muli v12 c1_i32_378
  let v610 : BitVec 32 := Scalar.addi v608 v609
  v610.toNat
def k0_off16 (d0 : Dev nD) (c0_i32_389 : BitVec 32) : Fin 2 → Nat :=
  let c2_i32_388 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v631 : BitVec 32 := Scalar.muli c2_i32_388 v9
  let v632 : BitVec 32 := Scalar.addi c0_i32_389 v631
  let c1_i32_390 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v633 : BitVec 32 := Scalar.subi c1_i32_390 v2
  let v634 : BitVec 32 := Scalar.addi v632 v633
  let c32_i32_391 : BitVec 32 := 32#32
  let v635 : BitVec 32 := Scalar.muli v634 c32_i32_391
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v16 : BitVec 32 := Scalar.subi c1_i32_7 v5
  let c8192_i32_8 : BitVec 32 := 8192#32
  let v17 : BitVec 32 := Scalar.muli v16 c8192_i32_8
  ![v635.toNat, v17.toNat]
def k0_dev23 (d0 : Dev nD) : Nat :=
  let c0_i32_395 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_394 : BitVec 32 := 8#32
  let v636 : BitVec 32 := Scalar.muli v2 c8_i32_394
  let v637 : BitVec 32 := Scalar.addi c0_i32_395 v636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396 : BitVec 32 := 4#32
  let v638 : BitVec 32 := Scalar.muli v5 c4_i32_396
  let v639 : BitVec 32 := Scalar.addi v637 v638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_397 : BitVec 32 := 1#32
  let v640 : BitVec 32 := Scalar.muli v12 c1_i32_397
  let v641 : BitVec 32 := Scalar.addi v639 v640
  v641.toNat
def k0_dev24 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v675 : BitVec 32 := Scalar.muli v2 c8_i32_412
  let v676 : BitVec 32 := Scalar.addi c0_i32_413 v675
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_414 : BitVec 32 := 4#32
  let v677 : BitVec 32 := Scalar.muli v13 c4_i32_414
  let v678 : BitVec 32 := Scalar.addi v676 v677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v679 : BitVec 32 := Scalar.muli v8 c1_i32_415
  let v680 : BitVec 32 := Scalar.addi v678 v679
  v680.toNat
def k0_off17 (d0 : Dev nD) : Fin 2 → Nat :=
  let c384_i32 : BitVec 32 := 384#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![384, v15.toNat]
def k0_dev25 (d0 : Dev nD) : Nat :=
  let c0_i32_433 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_432 : BitVec 32 := 8#32
  let v708 : BitVec 32 := Scalar.muli v2 c8_i32_432
  let v709 : BitVec 32 := Scalar.addi c0_i32_433 v708
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_434 : BitVec 32 := 4#32
  let v710 : BitVec 32 := Scalar.muli v13 c4_i32_434
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v712 : BitVec 32 := Scalar.muli v8 c1_i32_435
  let v713 : BitVec 32 := Scalar.addi v711 v712
  v713.toNat
def k0_off18 (d0 : Dev nD) : Fin 2 → Nat :=
  let c416_i32 : BitVec 32 := 416#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![416, v15.toNat]
def k0_dev26 (d0 : Dev nD) : Nat :=
  let c0_i32_453 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_452 : BitVec 32 := 8#32
  let v741 : BitVec 32 := Scalar.muli v2 c8_i32_452
  let v742 : BitVec 32 := Scalar.addi c0_i32_453 v741
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_454 : BitVec 32 := 4#32
  let v743 : BitVec 32 := Scalar.muli v13 c4_i32_454
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v745 : BitVec 32 := Scalar.muli v8 c1_i32_455
  let v746 : BitVec 32 := Scalar.addi v744 v745
  v746.toNat
def k0_off19 (d0 : Dev nD) : Fin 2 → Nat :=
  let c448_i32 : BitVec 32 := 448#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![448, v15.toNat]
def k0_dev27 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v774 : BitVec 32 := Scalar.muli v2 c8_i32_472
  let v775 : BitVec 32 := Scalar.addi c0_i32_473 v774
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_474 : BitVec 32 := 4#32
  let v776 : BitVec 32 := Scalar.muli v13 c4_i32_474
  let v777 : BitVec 32 := Scalar.addi v775 v776
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_475 : BitVec 32 := 1#32
  let v778 : BitVec 32 := Scalar.muli v8 c1_i32_475
  let v779 : BitVec 32 := Scalar.addi v777 v778
  v779.toNat
def k0_off20 (d0 : Dev nD) : Fin 2 → Nat :=
  let c480_i32 : BitVec 32 := 480#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v15 : BitVec 32 := Scalar.muli v5 c8192_i32
  ![480, v15.toNat]
def k0_dev28 (d0 : Dev nD) : Nat :=
  let c0_i32_490 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_489 : BitVec 32 := 8#32
  let v797 : BitVec 32 := Scalar.muli v2 c8_i32_489
  let v798 : BitVec 32 := Scalar.addi c0_i32_490 v797
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_491 : BitVec 32 := 4#32
  let v799 : BitVec 32 := Scalar.muli v13 c4_i32_491
  let v800 : BitVec 32 := Scalar.addi v798 v799
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v801 : BitVec 32 := Scalar.muli v8 c1_i32_492
  let v802 : BitVec 32 := Scalar.addi v800 v801
  v802.toNat
def k0_dev29 (d0 : Dev nD) : Nat :=
  let c0_i32_512 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_511 : BitVec 32 := 8#32
  let v829 : BitVec 32 := Scalar.muli v14 c8_i32_511
  let v830 : BitVec 32 := Scalar.addi c0_i32_512 v829
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_513 : BitVec 32 := 4#32
  let v831 : BitVec 32 := Scalar.muli v5 c4_i32_513
  let v832 : BitVec 32 := Scalar.addi v830 v831
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_514 : BitVec 32 := 1#32
  let v833 : BitVec 32 := Scalar.muli v8 c1_i32_514
  let v834 : BitVec 32 := Scalar.addi v832 v833
  v834.toNat
def k0_dev30 (d0 : Dev nD) : Nat :=
  let c0_i32_521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_520 : BitVec 32 := 8#32
  let v845 : BitVec 32 := Scalar.muli v2 c8_i32_520
  let v846 : BitVec 32 := Scalar.addi c0_i32_521 v845
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_522 : BitVec 32 := 4#32
  let v847 : BitVec 32 := Scalar.muli v5 c4_i32_522
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_523 : BitVec 32 := 1#32
  let v849 : BitVec 32 := Scalar.muli v12 c1_i32_523
  let v850 : BitVec 32 := Scalar.addi v848 v849
  v850.toNat
def k0_dev31 (d0 : Dev nD) : Nat :=
  let c0_i32_540 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_539 : BitVec 32 := 8#32
  let v876 : BitVec 32 := Scalar.muli v2 c8_i32_539
  let v877 : BitVec 32 := Scalar.addi c0_i32_540 v876
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v878 : BitVec 32 := Scalar.muli v5 c4_i32_541
  let v879 : BitVec 32 := Scalar.addi v877 v878
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_542 : BitVec 32 := 1#32
  let v880 : BitVec 32 := Scalar.muli v12 c1_i32_542
  let v881 : BitVec 32 := Scalar.addi v879 v880
  v881.toNat
def k0_dev32 (d0 : Dev nD) : Nat :=
  let c0_i32_560 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_559 : BitVec 32 := 8#32
  let v907 : BitVec 32 := Scalar.muli v14 c8_i32_559
  let v908 : BitVec 32 := Scalar.addi c0_i32_560 v907
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_561 : BitVec 32 := 4#32
  let v909 : BitVec 32 := Scalar.muli v5 c4_i32_561
  let v910 : BitVec 32 := Scalar.addi v908 v909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v911 : BitVec 32 := Scalar.muli v8 c1_i32_562
  let v912 : BitVec 32 := Scalar.addi v910 v911
  v912.toNat
def k0_dev33 (d0 : Dev nD) : Nat :=
  let c0_i32_569 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_568 : BitVec 32 := 8#32
  let v923 : BitVec 32 := Scalar.muli v2 c8_i32_568
  let v924 : BitVec 32 := Scalar.addi c0_i32_569 v923
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_570 : BitVec 32 := 4#32
  let v925 : BitVec 32 := Scalar.muli v5 c4_i32_570
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_571 : BitVec 32 := 1#32
  let v927 : BitVec 32 := Scalar.muli v12 c1_i32_571
  let v928 : BitVec 32 := Scalar.addi v926 v927
  v928.toNat
def k0_off21 (d0 : Dev nD) (c8_i32_583 : BitVec 32) : Fin 2 → Nat :=
  let c2_i32_582 : BitVec 32 := 2#32
  let c1_i32_581 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v949 : BitVec 32 := Scalar.subi c1_i32_581 v9
  let v950 : BitVec 32 := Scalar.muli c2_i32_582 v949
  let v951 : BitVec 32 := Scalar.addi c8_i32_583 v950
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v952 : BitVec 32 := Scalar.addi v951 v2
  let c32_i32_584 : BitVec 32 := 32#32
  let v953 : BitVec 32 := Scalar.muli v952 c32_i32_584
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v16 : BitVec 32 := Scalar.subi c1_i32_7 v5
  let c8192_i32_8 : BitVec 32 := 8192#32
  let v17 : BitVec 32 := Scalar.muli v16 c8192_i32_8
  ![v953.toNat, v17.toNat]
def k0_dev34 (d0 : Dev nD) : Nat :=
  let c0_i32_588 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_587 : BitVec 32 := 8#32
  let v954 : BitVec 32 := Scalar.muli v14 c8_i32_587
  let v955 : BitVec 32 := Scalar.addi c0_i32_588 v954
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_589 : BitVec 32 := 4#32
  let v956 : BitVec 32 := Scalar.muli v5 c4_i32_589
  let v957 : BitVec 32 := Scalar.addi v955 v956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_590 : BitVec 32 := 1#32
  let v958 : BitVec 32 := Scalar.muli v8 c1_i32_590
  let v959 : BitVec 32 := Scalar.addi v957 v958
  v959.toNat
def k0_dev35 (d0 : Dev nD) : Nat :=
  let c0_i32_607 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_606 : BitVec 32 := 8#32
  let v985 : BitVec 32 := Scalar.muli v14 c8_i32_606
  let v986 : BitVec 32 := Scalar.addi c0_i32_607 v985
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_608 : BitVec 32 := 4#32
  let v987 : BitVec 32 := Scalar.muli v5 c4_i32_608
  let v988 : BitVec 32 := Scalar.addi v986 v987
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_609 : BitVec 32 := 1#32
  let v989 : BitVec 32 := Scalar.muli v8 c1_i32_609
  let v990 : BitVec 32 := Scalar.addi v988 v989
  v990.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Order.lean ====
/-
  The transfers of the talking kernel, who they go to, and the order in which a device starts them and waits for them.
  Nothing here speaks of memory: devices, names and finite tables only.
-/
module

public import proofs.«01_k».proof.Proof.Gen.KernelIdeal.Skeleton
public import Idealize.ShloMosaic.Lib.Pipeline.Regions
public import Idealize.ShloMosaic.Lib.Pipeline.Kit
public import Idealize.ShloMosaic.Lib.Rounds
public import Idealize.ShloMosaic.Lib.Tactic
public import Mathlib.Tactic.DeriveFintype

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The mesh: device `8 x + 4 y + z` -/

/-- The neighbour along y, along x, and the one z is paired with. -/
def yp (c : Dev nD) : Dev nD := if c.val / 4 % 2 = 0 then ⟨(c.val + 4) % 16, Nat.mod_lt _ (by decide)⟩ else ⟨c.val - 4, by have := c.isLt; simp only [nD] at *; omega⟩
def xp (c : Dev nD) : Dev nD := ⟨(c.val + 8) % 16, Nat.mod_lt _ (by decide)⟩
def zp (c : Dev nD) : Dev nD := if c.val % 2 = 0 then ⟨(c.val + 1) % 16, Nat.mod_lt _ (by decide)⟩ else ⟨c.val - 1, by have := c.isLt; simp only [nD] at *; omega⟩

theorem yp_yp : ∀ c, yp (yp c) = c := by decide +kernel
theorem xp_xp : ∀ c, xp (xp c) = c := by decide +kernel
theorem zp_zp : ∀ c, zp (zp c) = c := by decide +kernel

/-- The column half a device computes, and the other one. -/
def hy (c : Dev nD) : Fin 2 := ⟨c.val / 4 % 2, Nat.mod_lt _ (by decide)⟩
def ho (c : Dev nD) : Fin 2 := ⟨1 - c.val / 4 % 2, by omega⟩

/-- The block of 32 rows a device sends across y in round `k`. -/
def own (c : Dev nD) (k : Fin 4) : Fin 16 := ⟨4 * k.val + 2 * (c.val % 2) + c.val / 8, by have := c.isLt; have := k.isLt; simp only [nD] at *; omega⟩

/-! ## Transfers -/

/-- One device's remote copies: row statistics, rows across y, rows passed on along x and along z, and the rows that
    reach the diagonal neighbour in two steps. -/
inductive Tr
  | st (r : Fin 16) | y (k : Fin 4) | xd (k : Fin 4) | zd (k : Fin 4) | zt (k : Fin 2) | xt (k : Fin 2)
  deriving DecidableEq, Fintype

/-- The ends of transfers that are waited for, and the local copies. -/
inductive TC
  | snd (t : Tr) | rcv (t : Tr) | cp (r : Fin 16)
  deriving DecidableEq, Fintype

namespace Tr

/-- The direction: 0 across y, 1 along x, 2 along z. -/
def dir : Tr → Fin 3
  | st _ | y _ => 0
  | xd _ | xt _ => 1
  | zd _ | zt _ => 2

/-- The place in the order a device starts its transfers. -/
def ord : Tr → ℕ
  | st r => ![0, 1, 2, 3, 5, 6, 7, 8, 12, 13, 14, 15, 20, 21, 22, 23] r
  | y k => ![4, 9, 16, 24] k
  | xd k => ![10, 17, 25, 28] k
  | zd k => ![11, 18, 26, 29] k
  | zt k => ![19, 27] k
  | xt k => ![30, 31] k

end Tr

theorem ord_inj : Function.Injective Tr.ord := by decide +kernel

def word : TC → ℕ
  | .rcv (.y k) => ![0, 1, 3, 5] k
  | .rcv (.xd k) => ![2, 4, 68, 69] k
  | .rcv (.zd k) => ![70, 71, 6, 7] k
  | .rcv (.st r) => 8 + r
  | .snd (.st r) => 24 + 2 * r
  | .cp r => 25 + 2 * r
  | .snd (.y k) => 56 + 3 * k
  | .snd (.xd k) => 57 + 3 * k
  | .snd (.zd k) => 58 + 3 * k
  | .snd (.zt k) => 72 + 2 * k
  | .rcv (.zt k) => 73 + 2 * k
  | .snd (.xt k) => 76 + 2 * k
  | .rcv (.xt k) => 77 + 2 * k

theorem word_inj : Function.Injective word := by decide +kernel
theorem word_lt : ∀ x, word x < 80 := by decide +kernel

/-- Who transfer `d` of device `c` goes to. -/
def peerD (d : Fin 3) (c : Dev nD) : Dev nD := match d with | 0 => yp c | 1 => xp c | 2 => zp c
abbrev Tr.peer (t : Tr) (c : Dev nD) : Dev nD := peerD t.dir c
theorem peerD_peerD (d : Fin 3) (c : Dev nD) : peerD d (peerD d c) = c := by revert d c; decide +kernel

def wT : (t : TC) → Fin 89
  | .snd (.st r) => ⟨3 + r, by omega⟩
  | .rcv (.st r) => ⟨19 + r, by omega⟩
  | .snd (.y k) => ⟨35 + k, by omega⟩
  | .rcv (.y k) => ⟨39 + k, by omega⟩
  | .snd (.xd k) => ⟨43 + k, by omega⟩
  | .rcv (.xd k) => ⟨47 + k, by omega⟩
  | .snd (.zd k) => ⟨51 + k, by omega⟩
  | .rcv (.zd k) => ⟨55 + k, by omega⟩
  | .snd (.zt k) => ⟨59 + k, by omega⟩
  | .rcv (.zt k) => ⟨61 + k, by omega⟩
  | .snd (.xt k) => ⟨63 + k, by omega⟩
  | .rcv (.xt k) => ⟨65 + k, by omega⟩
  | .cp r => ⟨67 + r, by omega⟩

theorem wT_inj : Function.Injective wT := by decide +kernel

end Cert.KernelIdeal.Talk

end
-- ==== Proof.Contents.lean ====
/-
  The pieces of the talking kernel's buffers: one block of 32 rows of the exponentials, of the statistics, and of the
  gathered array, as views, with the cells each covers, and what each holds once it is written.
-/
module

public import proofs.«01_k».proof.Proof.Order
public import Idealize.ShloMosaic.Lib.ValueLayout

@[expose] public section

noncomputable section

namespace Cert.KernelIdeal.Talk

open Idealize.ShloMosaic Idealize.ShloMosaic.TcCoe Idealize.ShloMosaic.ValueIdx
open Cert.KernelIdeal Cert.KernelIdeal.Gen

variable {F : FTy → Type} [FloatOps F]

/-! ## Views -/

abbrev eW : Memref sig .tc .vmem S16x32x8192 .bf16 := Memref.whole cc0_scratch0
abbrev sW : Memref sig .tc .vmem S16x32x256 .f32 := Memref.whole cc0_scratch1
abbrev rW : Memref sig .tc .vmem S16x32x256 .f32 := Memref.whole cc0_scratch2
abbrev aW : Memref sig .tc .hbm S512x16384 .bf16 := Memref.whole main_v1_0

theorem inbE (r : Fin 16) : ∀ a, (![r.val, 0, 0] : Fin 3 → ℕ) a + S1x32x8192.size a ≤ S16x32x8192.size a := by revert r; decide
theorem inbS (r : Fin 16) : ∀ a, (![r.val, 0, 0] : Fin 3 → ℕ) a + S1x32x256.size a ≤ S16x32x256.size a := by revert r; decide
theorem inbA (r : Fin 16) (h : Fin 2) : ∀ a, (![32 * r.val, 8192 * h.val] : Fin 2 → ℕ) a + S32x8192.size a ≤ S512x16384.size a := by
  revert r h; decide

/-- Block `r` of the exponentials. -/
abbrev eRect (r : Fin 16) : Rect S16x32x8192 := Rect.unit (s := S16x32x8192) ![r.val, 0, 0] S1x32x8192.size (inbE r)
abbrev eM (r : Fin 16) : Memref sig .tc .vmem S32x8192 .bf16 :=
  (eW.slice (eRect r) (fun _ => rfl)).squeeze S32x8192 squeezes_S1x32x8192_S32x8192
/-- Block `r` of the statistics: the own ones, the received ones. -/
abbrev sRect (r : Fin 16) : Rect S16x32x256 := Rect.unit (s := S16x32x256) ![r.val, 0, 0] S1x32x256.size (inbS r)
abbrev sM (r : Fin 16) : Memref sig .tc .vmem S32x256 .f32 :=
  (sW.slice (sRect r) (fun _ => rfl)).squeeze S32x256 squeezes_S1x32x256_S32x256
abbrev rM (r : Fin 16) : Memref sig .tc .vmem S32x256 .f32 :=
  (rW.slice (sRect r) (fun _ => rfl)).squeeze S32x256 squeezes_S1x32x256_S32x256
/-- Rows `32 r …`, column half `h`, of the gathered array. -/
abbrev aRect (r : Fin 16) (h : Fin 2) : Rect S512x16384 := Rect.unit (s := S512x16384) ![32 * r.val, 8192 * h.val] S32x8192.size (inbA r h)
abbrev aM (r : Fin 16) (h : Fin 2) : Memref sig .tc .hbm S32x8192 .bf16 := aW.slice (aRect r h) (fun _ => rfl)

/-! ## The cells each view covers -/

theorem eM_set (r : Fin 16) : (eM r).view.set = (eRect r).set :=
  (View.set_reshape ((View.whole cc0_scratch0).slice (eRect r)) _).trans (View.set_slice_whole cc0_scratch0 (eRect r))
theorem sM_set (r : Fin 16) : (sM r).view.set = (sRect r).set :=
  (View.set_reshape ((View.whole cc0_scratch1).slice (sRect r)) _).trans (View.set_slice_whole cc0_scratch1 (sRect r))
theorem rM_set (r : Fin 16) : (rM r).view.set = (sRect r).set :=
  (View.set_reshape ((View.whole cc0_scratch2).slice (sRect r)) _).trans (View.set_slice_whole cc0_scratch2 (sRect r))
theorem aM_set (r : Fin 16) (h : Fin 2) : (aM r h).view.set = (aRect r h).set := View.set_slice_whole main_v1_0 (aRect r h)
theorem eAcc_set (r : Fin 16) : (eW.access (eRect r)).set = (eM r).view.set :=
  (View.set_reshape ((View.whole cc0_scratch0).slice (eRect r)) _).symm
theorem sAcc_set (r : Fin 16) : (sW.access (sRect r)).set = (sM r).view.set :=
  (View.set_reshape ((View.whole cc0_scratch1).slice (sRect r)) _).symm

theorem mem_eRect (r : Fin 16) (i : S16x32x8192.Idx) : i ∈ (eRect r).set ↔ (i 0).val = r.val := by
  refine Rect.mem_set_unit.trans (Fin.forall_fin_succ.trans ?_)
  rw [Fin.forall_fin_two]
  have h0 : (i 0).val < 16 := (i 0).isLt
  have h1 : (i 1).val < 32 := (i 1).isLt
  have h2 : (i 2).val < 8192 := (i 2).isLt
  show (r.val ≤ (i 0).val ∧ (i 0).val < r.val + 1) ∧ (0 ≤ (i 1).val ∧ (i 1).val < 0 + 32) ∧ (0 ≤ (i 2).val ∧ (i 2).val < 0 + 8192) ↔ _
  omega
theorem mem_sRect (r : Fin 16) (i : S16x32x256.Idx) : i ∈ (sRect r).set ↔ (i 0).val = r.val := by
  refine Rect.mem_set_unit.trans (Fin.forall_fin_succ.trans ?_)
  rw [Fin.forall_fin_two]
  have h0 : (i 0).val < 16 := (i 0).isLt
  have h1 : (i 1).val < 32 := (i 1).isLt
  have h2 : (i 2).val < 256 := (i 2).isLt
  show (r.val ≤ (i 0).val ∧ (i 0).val < r.val + 1) ∧ (0 ≤ (i 1).val ∧ (i 1).val < 0 + 32) ∧ (0 ≤ (i 2).val ∧ (i 2).val < 0 + 256) ↔ _
  omega
theorem mem_aRect (r : Fin 16) (h : Fin 2) (i : S512x16384.Idx) :
    i ∈ (aRect r h).set ↔ (i 0).val / 32 = r.val ∧ (i 1).val / 8192 = h.val := by
  refine Rect.mem_set_unit.trans (Fin.forall_fin_two.trans ?_)
  show (32 * r.val ≤ (i 0).val ∧ (i 0).val < 32 * r.val + 32) ∧ (8192 * h.val ≤ (i 1).val ∧ (i 1).val < 8192 * h.val + 8192) ↔ _
  omega

/-! ## What they hold -/

section Vals

variable (eV : Dev nD → Fin 16 → FVec F S1x32x8192 .bf16) (sV : Dev nD → Fin 16 → FVec F S1x32x256 .f32)

/-- The exponentials of device `c`, all of them: block `r` is what the kernel stores for block `r`. -/
def eB (c : Dev nD) : S16x32x8192.Idx → Elt F .bf16 := fun i => eV c (i 0) (ix3 0 (i 1) (i 2))
/-- Its statistics. -/
def sB (c : Dev nD) : S16x32x256.Idx → Elt F .f32 := fun i => sV c (i 0) (ix3 0 (i 1) (i 2))
/-- Its exponentials laid out as the gathered array lays out either half. -/
def eA (c : Dev nD) : S512x16384.Idx → Elt F .bf16 := fun i =>
  eB eV c (ix3 ⟨(i 0).val / 32, by have : (i 0).val < 512 := (i 0).isLt; omega⟩
    ⟨(i 0).val % 32, by omega⟩ ⟨(i 1).val % 8192, by omega⟩)

theorem eStore (c : Dev nD) (r : Fin 16) (f : S16x32x8192.Idx → Elt F .bf16) : ∀ i ∈ (eM r).view.set,
    (eW.access (eRect r)).write (Elt F) f (eV c r) Finset.univ i = eB eV c i := by
  intro i hi
  rw [← eAcc_set] at hi
  obtain ⟨x, -, rfl⟩ := Finset.mem_map.mp hi
  refine (View.write_emb_of_mem _ _ (Finset.mem_univ x)).trans ?_
  show eV c r x = eV c _ _
  have h0 : (x 0).val < 1 := (x 0).isLt
  have e0 : r = ((eW.access (eRect r)).emb x 0 : Fin 16) := Fin.ext (by
    show r.val = r.val + 1 * (x 0).val
    omega)
  rw [← e0]
  refine congrArg (eV c r) (funext fun d => ?_)
  match d with
  | ⟨0, _⟩ => exact Fin.ext (by show (x 0).val = 0; omega)
  | ⟨1, _⟩ => exact Fin.ext (by show (x 1).val = 0 + 1 * (x 1).val; omega)
  | ⟨2, _⟩ => exact Fin.ext (by show (x 2).val = 0 + 1 * (x 2).val; omega)

theorem sStore (c : Dev nD) (r : Fin 16) (f : S16x32x256.Idx → Elt F .f32) : ∀ i ∈ (sM r).view.set,
    (sW.access (sRect r)).write (Elt F) f (sV c r) Finset.univ i = sB sV c i := by
  intro i hi
  rw [← sAcc_set] at hi
  obtain ⟨x, -, rfl⟩ := Finset.mem_map.mp hi
  refine (View.write_emb_of_mem _ _ (Finset.mem_univ x)).trans ?_
  show sV c r x = sV c _ _
  have h0 : (x 0).val < 1 := (x 0).isLt
  have e0 : r = ((sW.access (sRect r)).emb x 0 : Fin 16) := Fin.ext (by
    show r.val = r.val + 1 * (x 0).val
    omega)
  rw [← e0]
  refine congrArg (sV c r) (funext fun d => ?_)
  match d with
  | ⟨0, _⟩ => exact Fin.ext (by show (x 0).val = 0; omega)
  | ⟨1, _⟩ => exact Fin.ext (by show (x 1).val = 0 + 1 * (x 1).val; omega)
  | ⟨2, _⟩ => exact Fin.ext (by show (x 2).val = 0 + 1 * (x 2).val; omega)

theorem eM_emb (r : Fin 16) (x : S32x8192.Idx) : (eM r).view.emb x = (ix3 r (x 0) (x 1) : S16x32x8192.Idx) := by
  show (eRect r).emb (Shape.reshapeEquiv squeezes_S1x32x8192_S32x8192.numel_eq x) = _
  rw [show Shape.reshapeEquiv squeezes_S1x32x8192_S32x8192.numel_eq x = Fin.cons ⟨0, Nat.one_pos⟩ x from Shape.reshapeEquiv_cons_one _ x]
  funext d
  match d with
  | ⟨0, _⟩ => exact Fin.ext (by show r.val + 1 * 0 = r.val; omega)
  | ⟨1, _⟩ => exact Fin.ext (by show 0 + 1 * (x 0).val = (x 0).val; omega)
  | ⟨2, _⟩ => exact Fin.ext (by show 0 + 1 * (x 1).val = (x 1).val; omega)

/-- Rows copied from the exponentials' block into the gathered array: what lies there is `eA`. -/
theorem eCopy (c : Dev nD) (r : Fin 16) (h : Fin 2) (fd : S512x16384.Idx → Elt F .bf16) : ∀ i ∈ (aM r h).view.set,
    (aM r h).view.write (Elt F) fd ((eM r).view.read (Elt F) (eB eV c)) Finset.univ i = eA eV c i := by
  intro i hi
  obtain ⟨x, -, rfl⟩ := Finset.mem_map.mp hi
  refine (View.write_emb_of_mem _ _ (Finset.mem_univ x)).trans ?_
  show eB eV c ((eM r).view.emb x) = eB eV c _
  rw [eM_emb]
  have h0 : (x 0).val < 32 := (x 0).isLt
  have h1 : (x 1).val < 8192 := (x 1).isLt
  refine congrArg (eB eV c) (funext fun d => ?_)
  match d with
  | ⟨0, _⟩ => exact Fin.ext (by show r.val = (32 * r.val + 1 * (x 0).val) / 32; omega)
  | ⟨1, _⟩ => exact Fin.ext (by show (x 0).val = (32 * r.val + 1 * (x 0).val) % 32; omega)
  | ⟨2, _⟩ => exact Fin.ext (by show (x 1).val = (8192 * h.val + 1 * (x 1).val) % 8192; omega)

/-- Statistics sent across: the same block of the receiver's buffer holds them. -/
theorem sCopy (c : Dev nD) (r : Fin 16) (fd : S16x32x256.Idx → Elt F .f32) : ∀ i ∈ (rM r).view.set,
    (rM r).view.write (Elt F) fd ((sM r).view.read (Elt F) (sB sV c)) Finset.univ i = sB sV c i := by
  intro i hi
  obtain ⟨x, -, rfl⟩ := Finset.mem_map.mp hi
  exact (View.write_emb_of_mem _ _ (Finset.mem_univ x)).trans rfl

/-- Rows passed on between the same places of two gathered arrays stay what they were. -/
theorem aCopy (r : Fin 16) (h : Fin 2) (g fd : S512x16384.Idx → Elt F .bf16) : ∀ i ∈ (aM r h).view.set,
    (aM r h).view.write (Elt F) fd ((aM r h).view.read (Elt F) g) Finset.univ i = g i := by
  intro i hi
  obtain ⟨x, -, rfl⟩ := Finset.mem_map.mp hi
  exact (View.write_emb_of_mem _ _ (Finset.mem_univ x)).trans rfl

end Vals

end Cert.KernelIdeal.Talk

end
-- ==== Proof.Sched.lean ====
/-
  The talking kernel's protocol. Round 0 of every cell is its only round. A device's barrier cell has three duties, one for
  each neighbour, and what a neighbour pays with its unit is every place of its own buffers this device will write. A
  transfer's end cells have one duty each: the sender's gets the share of the source back, the receiver's gets the rows
  that landed, at the sender's values.
-/
module

public import proofs.«01_k».proof.Proof.Contents
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Cells -/

abbrev barCell (c : Dev nD) : GSem nD τ sig := ((c : Thread nD τ), .reg barrier0)
abbrev cell (c : Dev nD) (x : TC) : GSem nD τ sig := ((c : Thread nD τ), .dma (wT x))

theorem bar_ne_cell (c c' : Dev nD) (x : TC) : barCell c ≠ cell c' x := fun h => by cases congrArg Prod.snd h
theorem cell_inj {c c' : Dev nD} {x x' : TC} (h : cell c x = cell c' x') : c = c' ∧ x = x' := by
  have h1 : (c : Thread nD τ) = c' := congrArg Prod.fst h
  have h2 : (SemLoc.dma (wT x) : SemLoc sig) = .dma (wT x') := congrArg Prod.snd h
  exact ⟨congrArg Prod.fst h1, wT_inj (SemLoc.dma.inj h2)⟩

/-- What one transfer of statistics credits, and one of rows. -/
abbrev NS : ℕ := (rM 0).view.dmaCredit
abbrev NA : ℕ := (aM 0 0).view.dmaCredit
theorem NS_pos : 0 < NS := View.dmaCredit_pos _ (by decide)
theorem NA_pos : 0 < NA := View.dmaCredit_pos _ (by decide)

/-- The credit of a cell, read off its number: the first thirty-two own cells are the statistics'. -/
def amt (s : Fin 89) : ℕ := if s.val < 35 then NS else NA
theorem amt_pos (s : Fin 89) : 0 < amt s := by unfold amt; split; exacts [NS_pos, NA_pos]
abbrev amtT (x : TC) : ℕ := amt (wT x)

/-! ## Points-tos -/

section Pts
variable (c : Dev nD) (r : Fin 16) (h : Fin 2) (q : PosShare TreeShare)

abbrev ePt (f : S16x32x8192.Idx → Elt F .bf16) : sProp 𝕄 := (eM r).view.loc (c : Thread nD τ) ↦[(eM r).view.set]{q} f
abbrev sPt (f : S16x32x256.Idx → Elt F .f32) : sProp 𝕄 := (sM r).view.loc (c : Thread nD τ) ↦[(sM r).view.set]{q} f
abbrev rPt (f : S16x32x256.Idx → Elt F .f32) : sProp 𝕄 := (rM r).view.loc (c : Thread nD τ) ↦[(rM r).view.set]{q} f
abbrev aPt (f : S512x16384.Idx → Elt F .bf16) : sProp 𝕄 := (aM r h).view.loc (c : Thread nD τ) ↦[(aM r h).view.set]{q} f
end Pts

abbrev fS : PosShare TreeShare := fullShare
abbrev lS : PosShare TreeShare := fullShare.left
abbrev rS : PosShare TreeShare := fullShare.right

/-! ## What passes along -/

/-- The block of rows a forwarding transfer of device `c` carries, … -/
def fRow : Tr → Dev nD → Fin 16
  | .st r, _ => r
  | .y k, c => own c k
  | .xd k, c => own c k
  | .zd k, c => own c k
  | .zt k, c => own (xp c) ⟨k.val, by omega⟩
  | .xt k, c => own (zp c) ⟨2 + k.val, by omega⟩
/-- … the device those rows come from, … -/
def fSrc : Tr → Dev nD → Dev nD
  | .st _, c => c
  | .y _, c => c
  | .xd _, c => yp c
  | .zd _, c => yp c
  | .zt _, c => yp (xp c)
  | .xt _, c => yp (zp c)
/-- … the column half, at the sender and the receiver alike, … -/
def fHalf : Tr → Dev nD → Fin 2
  | .st _, c => hy c
  | .y _, c => hy c
  | _, c => ho c
/-- … and the share of the source it is sent from. -/
def fShare : Tr → PosShare TreeShare
  | .st _ => lS
  | .y _ => rS
  | .xd _ => lS
  | .zd _ => rS
  | .zt _ => fS
  | .xt _ => fS

section Pay

variable (eV : Dev nD → Fin 16 → FVec F S1x32x8192 .bf16) (sV : Dev nD → Fin 16 → FVec F S1x32x256 .f32)

/-- The place transfer `t` of device `c` writes, on the device it goes to, at contents not chosen. -/
def dstAny (t : Tr) (c : Dev nD) : sProp 𝕄 := match t with
  | .st r => iprop(∃ f, rPt (yp c) r fS f)
  | t => iprop(∃ f, aPt (t.peer c) (fRow t c) (fHalf t c) fS f)

/-- What the sender of transfer `t` gets back. -/
def sndPay (t : Tr) (c : Dev nD) : sProp 𝕄 := match t with
  | .st r => sPt c r lS (sB sV c)
  | .y k => ePt c (own c k) rS (eB eV c)
  | t => aPt c (fRow t c) (ho c) (fShare t) (eA eV (fSrc t c))

/-- What transfer `t` of device `c` leaves on the device it goes to. -/
def landPay (t : Tr) (c : Dev nD) : sProp 𝕄 := match t with
  | .st r => rPt (yp c) r fS (sB sV c)
  | t => aPt (t.peer c) (fRow t c) (fHalf t c) fS (eA eV (fSrc t c))

/-- What lies in device `c`'s cell once its duty is paid. -/
def pay (c : Dev nD) : TC → sProp 𝕄
  | .snd t => sndPay eV sV t c
  | .rcv t => landPay eV sV t (t.peer c)
  | .cp r => iprop(aPt c r (hy c) fS (eA eV c) ∗ ePt c r lS (eB eV c))

/-- Paid with a barrier unit to device `c`, from direction `d`: the places `c`'s transfers in that direction write. -/
def barPay (c : Dev nD) (d : Fin 3) : sProp 𝕄 :=
  bigSep (Finset.univ.filter fun t : Tr => t.dir = d) fun t => iprop(dstAny (F := F) t c ∗ reached ER (cell (t.peer c) (.rcv t)) 0)

/-! ## The schedule -/

def payS (c : Dev nD) (s : Fin 89) : sProp 𝕄 := bigSep (Finset.univ.filter fun x : TC => wT x = s) fun x => pay eV sV c x

theorem payS_wT (c : Dev nD) (x : TC) : payS eV sV c (wT x) = pay eV sV c x := by
  unfold payS
  rw [show (Finset.univ.filter fun x' : TC => wT x' = wT x) = {x} from by
    ext x'; simp only [Finset.mem_filter, Finset.mem_univ, true_and, Finset.mem_singleton]
    exact ⟨fun h => wT_inj h, fun h => h ▸ rfl⟩, bigSep_singleton]

/-- Whether a number is that of one of the kernel's own cells. -/
abbrev ownSem (s : Fin 89) : Prop := 3 ≤ s.val ∧ s.val < 83

def talkRd : Rounds.Schedule (GSem nD τ sig) (Fin 3) 𝕄 where
  duties g r := if r = 0 ∧ g.1.2 = .tc then (match g.2 with | .reg _ => Finset.univ | .dma s => if ownSem s then {0} else ∅) else ∅
  unitless _ := False
  amount g _ _ := match g.2 with | .reg _ => 1 | .dma s => amt s
  payload g _ d := match g.2 with | .reg _ => barPay g.1.1 d | .dma s => payS eV sV g.1.1 s
  amount_pos g _ _ _ := by
    obtain ⟨_, s | s⟩ := g
    exacts [Nat.one_pos, amt_pos s]

instance dstAny_storable (t : Tr) (c : Dev nD) : BI.Storable (upEmb : UEmb _ 𝕄) (dstAny (F := F) t c) := by
  cases t <;> (unfold dstAny; infer_instance)
instance pay_storable (c : Dev nD) (x : TC) : BI.Storable (upEmb : UEmb _ 𝕄) (pay eV sV c x) := by
  rcases x with t | t | r
  · cases t <;> (unfold pay sndPay; infer_instance)
  · cases t <;> (unfold pay landPay; infer_instance)
  · unfold pay; infer_instance

instance talkRd_payload_storable (g : GSem nD τ sig) (r : ℕ) (d : Fin 3) :
    BI.Storable (upEmb : UEmb _ 𝕄) ((talkRd eV sV).payload g r d) := by
  obtain ⟨_, s | s⟩ := g
  · show BI.Storable _ (barPay _ _); unfold barPay; infer_instance
  · show BI.Storable _ (payS eV sV _ _); unfold payS; infer_instance

section Facts
variable (c : Dev nD) (x : TC)

theorem ownSem_wT : ∀ x, ownSem (wT x) := by decide +kernel

theorem duties_bar : (talkRd eV sV).duties (barCell c) 0 = Finset.univ := by
  dsimp only [talkRd]; exact if_pos ⟨rfl, rfl⟩
theorem duties_cell : (talkRd eV sV).duties (cell c x) 0 = {0} := by
  dsimp only [talkRd]; rw [if_pos ⟨rfl, rfl⟩, if_pos (ownSem_wT x)]
theorem duties_later (g : GSem nD τ sig) : ∀ r, 1 ≤ r → (talkRd eV sV).duties g r = ∅ :=
  fun r hr => by dsimp only [talkRd]; exact if_neg fun h => by omega
theorem amount_bar (d : Fin 3) : (talkRd eV sV).amount (barCell c) 0 d = 1 := rfl
theorem amount_cell (d : Fin 3) : (talkRd eV sV).amount (cell c x) 0 d = amtT x := rfl
theorem expect_bar : (talkRd eV sV).expect (barCell c) 0 = 3 := by
  unfold Schedule.expect Schedule.amountOf; rw [duties_bar]; rfl
theorem expect_cell : (talkRd eV sV).expect (cell c x) 0 = amtT x := by
  unfold Schedule.expect Schedule.amountOf; rw [duties_cell, Finset.sum_singleton, amount_cell]
theorem payload_bar (d : Fin 3) : (talkRd eV sV).payload (barCell c) 0 d = barPay c d := rfl
theorem payload_cell (d : Fin 3) : (talkRd eV sV).payload (cell c x) 0 d = pay eV sV c x := payS_wT eV sV c x
theorem rest_bar : bigSep ((talkRd eV sV).duties (barCell c) 0 \ ∅) (fun d => (talkRd eV sV).payload (barCell c) 0 d)
    = bigSep Finset.univ fun d => (barPay c d : sProp 𝕄) := by rw [Finset.sdiff_empty, duties_bar]; rfl
theorem rest_cell : bigSep ((talkRd eV sV).duties (cell c x) 0 \ ∅) (fun d => (talkRd eV sV).payload (cell c x) 0 d)
    = pay eV sV c x := by rw [Finset.sdiff_empty, duties_cell, bigSep_singleton, payload_cell]
theorem closeC (κ : ℕ) (g : GSem nD τ sig) :
    iprop(cellInv ER (talkRd eV sV) κ g ∗ atPos ER g (0 + 1) ∅ 0) ⊢ (|={Set.univ}=> semVal g 0 : sProp 𝕄) :=
  Rounds.cell_close ER (talkRd eV sV) (Set.mem_univ κ) id (duties_later eV sV g)
end Facts

end Pay

/-! ## What is owed, and the levels -/

/-- What device `c` still owes while the transfers in `S` are not started. -/
def owed (c : Dev nD) (S : Finset Tr) : CellTallies nD τ sig Unit :=
  ∑ t ∈ S, tallyAt (cell (t.peer c) (.rcv t)) () (amtT (.rcv t))

/-- At launch: all transfers, and a barrier unit to each neighbour. -/
def O₀ (c : Dev nD) : CellTallies nD τ sig Unit :=
  owed c Finset.univ + ∑ d : Fin 3, tallyAt (barCell (peerD d c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvT : TC → ℕ
  | .rcv t => 2 + t.ord
  | _ => 0
def lvS (s : Fin 89) : ℕ := ∑ x ∈ Finset.univ.filter fun x : TC => wT x = s, lvT x
theorem lvS_wT (x : TC) : lvS (wT x) = lvT x := by
  unfold lvS
  rw [show (Finset.univ.filter fun x' : TC => wT x' = wT x) = {x} from by
    ext x'; simp only [Finset.mem_filter, Finset.mem_univ, true_and, Finset.mem_singleton]
    exact ⟨fun h => wT_inj h, fun h => h ▸ rfl⟩, Finset.sum_singleton]
/-- Barrier cells at 1, the cell of the `i`-th transfer's landing at `2 + i`, the rest at 0. -/
def lv (g : GSem nD τ sig) (_ : Unit) : ℕ := match g.2 with | .reg _ => 1 | .dma s => lvS s

theorem owed_pos {c : Dev nD} {S : Finset Tr} {g : GSem nD τ sig} {u : Unit} (h : 0 < owed c S g u) :
    ∃ t ∈ S, g = cell (t.peer c) (.rcv t) := by
  classical
  by_contra hn
  push Not at hn
  have : owed c S g u = 0 := by
    unfold owed
    rw [Finset.sum_apply, Finsupp.finset_sum_apply]
    refine Finset.sum_eq_zero fun t ht => ?_
    rw [tallyAt_apply, if_neg fun hh => hn t ht hh.1]
  omega

/-- All level facts, as one name. -/
@[irreducible] def levs : sProp 𝕄 := levAts L lv
instance levs_persistent : BI.Persistent (levs (F := F)) := by unfold levs; infer_instance

/-- A wait below everything still owed is allowed. -/
theorem mayWait (c : Dev nD) (sm : SemLoc sig) (S : Finset Tr) (h : ∀ t ∈ S, lv ((c : Thread nD τ), sm) () < 2 + t.ord) :
    (levAts L lv : sProp 𝕄) ⊢ MayWait (c : Thread nD τ) sm () (owed c S) :=
  MayOwe.of_cut (L := L) (lev := lv) (lv ((c : Thread nD τ), sm) ()) (fun p hp => by rw [Finset.mem_singleton.mp hp, L_tc]; exact Finset.mem_singleton_self _)
    (fun g u hg => by obtain ⟨t, -, rfl⟩ := owed_pos hg; rw [L_tc]; exact Finset.mem_singleton_self _)
    (fun p hp => by rw [Finset.mem_singleton.mp hp])
    (fun g u hg => by
      obtain ⟨t, ht, rfl⟩ := owed_pos hg
      exact lt_of_lt_of_eq (h t ht) (lvS_wT (.rcv t)).symm)

end Cert.KernelIdeal.Talk

end
-- ==== Proof.State.lean ====
/-
  What one device holds between two events of the talking kernel, as families over what is still to do and what is done:
  `i` transfers started, `m` blocks stored, `n` of them sent and copied out, `j` waits done, `ky` blocks sent across y, and the payloads of the waits from
  the `lo`-th on kept. Each lemma here is one event.
-/
module

public import proofs.«01_k».proof.Proof.Sched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## Families -/

theorem bigSep_pop {T : Type} [DecidableEq T] {S S' : Finset T} (t : T) (h : ∀ x, x ∈ S ↔ x = t ∨ x ∈ S') (hn : t ∉ S') (Φ : T → sProp 𝕄) :
    bigSep S Φ = iprop(Φ t ∗ bigSep S' Φ) := by
  rw [show S = insert t S' from Finset.ext fun x => by rw [h, Finset.mem_insert], bigSep_insert hn]
  rfl

def fromT (i : ℕ) : Finset Tr := Finset.univ.filter fun t => i ≤ t.ord
def fromR (n : ℕ) : Finset (Fin 16) := Finset.univ.filter fun r => n ≤ r.val
def uptoR (n : ℕ) : Finset (Fin 16) := Finset.univ.filter fun r => r.val < n
def fromW (j : ℕ) : Finset TC := Finset.univ.filter fun x => j ≤ word x
def uptoW (j : ℕ) : Finset TC := Finset.univ.filter fun x => word x < j
def kept (lo j : ℕ) : Finset TC := Finset.univ.filter fun x => lo ≤ word x ∧ word x < j
/-- The waits that can be credited: everything that lands here, and what this device has started. -/
def avail (i n : ℕ) : TC → Prop
  | .rcv _ => True
  | .snd t => t.ord < i
  | .cp r => r.val < n
instance (i n : ℕ) : DecidablePred (avail i n) := fun x => by cases x <;> (unfold avail; infer_instance)
def cs (i n j : ℕ) : Finset TC := Finset.univ.filter fun x => j ≤ word x ∧ avail i n x
/-- The stored blocks whose right half is still here: those not yet sent across y. -/
def pool (c : Dev nD) (n ky : ℕ) : Finset (Fin 16) := Finset.univ.filter fun r => r.val < n ∧ ∀ k : Fin 4, k.val < ky → r ≠ own c k

section Pops
theorem mem_fromT_pop {i : ℕ} {t : Tr} (h : t.ord = i) (x : Tr) : x ∈ fromT i ↔ x = t ∨ x ∈ fromT (i + 1) := by
  simp only [fromT, Finset.mem_filter, Finset.mem_univ, true_and]
  constructor
  · intro hx
    rcases Nat.eq_or_lt_of_le hx with e | e
    · exact .inl (ord_inj (e.symm.trans h.symm))
    · exact .inr e
  · rintro (rfl | hx) <;> omega
theorem not_mem_fromT {i : ℕ} {t : Tr} (h : t.ord = i) : t ∉ fromT (i + 1) := by
  simp only [fromT, Finset.mem_filter, Finset.mem_univ, true_and]; omega

theorem fromT_pop (Ψ : Tr → sProp 𝕄) {i : ℕ} {t : Tr} (h : t.ord = i) : bigSep (fromT i) Ψ = iprop(Ψ t ∗ bigSep (fromT (i + 1)) Ψ) :=
  bigSep_pop t (mem_fromT_pop h) (not_mem_fromT h) Ψ
theorem owed_pop (c : Dev nD) {i : ℕ} {t : Tr} (h : t.ord = i) :
    owed c (fromT i) = owed c (fromT (i + 1)) + tallyAt (cell (t.peer c) (.rcv t)) () (amtT (.rcv t)) := by
  unfold owed
  rw [show fromT i = insert t (fromT (i + 1)) from Finset.ext fun x => by rw [mem_fromT_pop h, Finset.mem_insert],
    Finset.sum_insert (not_mem_fromT h), add_comm]
theorem fromR_pop (Ξ : Fin 16 → sProp 𝕄) (r : Fin 16) : bigSep (fromR r.val) Ξ = iprop(Ξ r ∗ bigSep (fromR (r.val + 1)) Ξ) :=
  bigSep_pop r (fun x => by simp only [fromR, Finset.mem_filter, Finset.mem_univ, true_and, Fin.ext_iff]; omega)
    (by simp only [fromR, Finset.mem_filter, Finset.mem_univ, true_and]; omega) Ξ
theorem uptoR_push (Ξ : Fin 16 → sProp 𝕄) (r : Fin 16) : bigSep (uptoR (r.val + 1)) Ξ = iprop(Ξ r ∗ bigSep (uptoR r.val) Ξ) :=
  bigSep_pop r (fun x => by simp only [uptoR, Finset.mem_filter, Finset.mem_univ, true_and, Fin.ext_iff]; omega)
    (by simp only [uptoR, Finset.mem_filter, Finset.mem_univ, true_and]; omega) Ξ
theorem fromW_pop (Φ : TC → sProp 𝕄) (x : TC) : bigSep (fromW (word x)) Φ = iprop(Φ x ∗ bigSep (fromW (word x + 1)) Φ) :=
  bigSep_pop x (fun y => by
      simp only [fromW, Finset.mem_filter, Finset.mem_univ, true_and, ← word_inj.eq_iff]; omega)
    (by simp only [fromW, Finset.mem_filter, Finset.mem_univ, true_and]; omega) Φ
theorem uptoW_push (Φ : TC → sProp 𝕄) (x : TC) : bigSep (uptoW (word x + 1)) Φ = iprop(Φ x ∗ bigSep (uptoW (word x)) Φ) :=
  bigSep_pop x (fun y => by
      simp only [uptoW, Finset.mem_filter, Finset.mem_univ, true_and, ← word_inj.eq_iff]; omega)
    (by simp only [uptoW, Finset.mem_filter, Finset.mem_univ, true_and]; omega) Φ
theorem kept_push (Φ : TC → sProp 𝕄) {lo : ℕ} (x : TC) (h : lo ≤ word x) : bigSep (kept lo (word x + 1)) Φ = iprop(Φ x ∗ bigSep (kept lo (word x)) Φ) :=
  bigSep_pop x (fun y => by
      simp only [kept, Finset.mem_filter, Finset.mem_univ, true_and, ← word_inj.eq_iff]; omega)
    (by simp only [kept, Finset.mem_filter, Finset.mem_univ, true_and]; omega) Φ
theorem kept_skip {lo : ℕ} (j : ℕ) (h : j + 1 ≤ lo) : kept lo (j + 1) = kept lo j := by
  ext y; simp only [kept, Finset.mem_filter, Finset.mem_univ, true_and]; omega
theorem cs_pop (Φ : TC → sProp 𝕄) {i n : ℕ} (x : TC) (h : avail i n x) : bigSep (cs i n (word x)) Φ = iprop(Φ x ∗ bigSep (cs i n (word x + 1)) Φ) :=
  bigSep_pop x (fun y => by
      simp only [cs, Finset.mem_filter, Finset.mem_univ, true_and, ← word_inj.eq_iff]
      constructor
      · rintro ⟨h1, h2⟩
        rcases Nat.eq_or_lt_of_le h1 with e | e
        · exact .inl e.symm
        · exact .inr ⟨e, h2⟩
      · rintro (e | ⟨h1, h2⟩)
        · rw [word_inj e]; exact ⟨le_refl _, h⟩
        · exact ⟨by omega, h2⟩)
    (by simp only [cs, Finset.mem_filter, Finset.mem_univ, true_and]; omega) Φ
theorem cs_snd (Φ : TC → sProp 𝕄) {i n j : ℕ} {t : Tr} (h : t.ord = i) (hj : j ≤ word (.snd t)) :
    bigSep (cs (i + 1) n j) Φ = iprop(Φ (.snd t) ∗ bigSep (cs i n j) Φ) :=
  bigSep_pop (TC.snd t) (fun y => by
      simp only [cs, Finset.mem_filter, Finset.mem_univ, true_and]
      rcases y with t' | t' | r
      · simp only [avail, TC.snd.injEq, ← ord_inj.eq_iff]
        constructor
        · rintro ⟨h1, h2⟩
          rcases Nat.lt_succ_iff_lt_or_eq.mp h2 with e | e
          · exact .inr ⟨h1, e⟩
          · exact .inl (e.trans h.symm)
        · rintro (e | ⟨h1, h2⟩)
          · rw [ord_inj e]; exact ⟨hj, by omega⟩
          · exact ⟨h1, by omega⟩
      · simp only [avail, and_true, reduceCtorEq, false_or]
      · simp only [avail, reduceCtorEq, false_or])
    (fun hm => by have h3 : t.ord < i := (Finset.mem_filter.mp hm).2.2; omega) Φ
theorem cs_cp (Φ : TC → sProp 𝕄) {i j : ℕ} (r : Fin 16) (hj : j ≤ word (.cp r)) :
    bigSep (cs i (r.val + 1) j) Φ = iprop(Φ (.cp r) ∗ bigSep (cs i r.val j) Φ) :=
  bigSep_pop (TC.cp r) (fun y => by
      simp only [cs, Finset.mem_filter, Finset.mem_univ, true_and]
      rcases y with t' | t' | r'
      · simp only [avail, reduceCtorEq, false_or]
      · simp only [avail, and_true, reduceCtorEq, false_or]
      · simp only [avail, TC.cp.injEq, Fin.ext_iff]
        constructor
        · rintro ⟨h1, h2⟩
          rcases Nat.lt_succ_iff_lt_or_eq.mp h2 with e | e
          · exact .inr ⟨h1, e⟩
          · exact .inl e
        · rintro (e | ⟨h1, h2⟩)
          · rw [Fin.ext e]; exact ⟨hj, by omega⟩
          · exact ⟨h1, by omega⟩)
    (fun hm => by have h3 : r.val < r.val := (Finset.mem_filter.mp hm).2.2; omega) Φ
theorem own_inj (c : Dev nD) (k k' : Fin 4) (h : own c k = own c k') : k = k' := by
  have := congrArg Fin.val h
  simp only [own] at this
  exact Fin.ext (by omega)
theorem pool_push (Ξ : Fin 16 → sProp 𝕄) (c : Dev nD) (r : Fin 16) {ky : ℕ} (h : 4 * ky ≤ r.val) :
    bigSep (pool c (r.val + 1) ky) Ξ = iprop(Ξ r ∗ bigSep (pool c r.val ky) Ξ) :=
  bigSep_pop r (fun x => by
      simp only [pool, Finset.mem_filter, Finset.mem_univ, true_and]
      constructor
      · rintro ⟨h1, h2⟩
        rcases Nat.lt_succ_iff_lt_or_eq.mp h1 with e | e
        · exact .inr ⟨e, h2⟩
        · exact .inl (Fin.ext e)
      · rintro (rfl | ⟨h1, h2⟩)
        · refine ⟨by omega, fun k hk e => ?_⟩
          have := congrArg Fin.val e
          have := c.isLt
          simp only [own, nD] at *
          omega
        · exact ⟨by omega, h2⟩)
    (by simp only [pool, Finset.mem_filter, Finset.mem_univ, true_and]; omega) Ξ
theorem pool_pop (Ξ : Fin 16 → sProp 𝕄) (c : Dev nD) (k : Fin 4) :
    bigSep (pool c (4 * k.val + 4) k.val) Ξ = iprop(Ξ (own c k) ∗ bigSep (pool c (4 * k.val + 4) (k.val + 1)) Ξ) :=
  bigSep_pop (own c k) (fun x => by
      simp only [pool, Finset.mem_filter, Finset.mem_univ, true_and]
      constructor
      · rintro ⟨h1, h2⟩
        by_cases e : x = own c k
        · exact .inl e
        · refine .inr ⟨h1, fun k' hk' => ?_⟩
          rcases Nat.lt_succ_iff_lt_or_eq.mp hk' with h' | h'
          · exact h2 k' h'
          · rwa [Fin.ext h']
      · rintro (rfl | ⟨h1, h2⟩)
        · refine ⟨by have := c.isLt; simp only [own, nD] at *; omega, fun k' hk' e => ?_⟩
          have := own_inj c _ _ e
          subst this; omega
        · exact ⟨h1, fun k' hk' => h2 k' (by omega)⟩)
    (by
      simp only [pool, Finset.mem_filter, Finset.mem_univ, true_and, not_and]
      exact fun _ h => h k (by omega) rfl) Ξ

end Pops

theorem amtT_snd (t : Tr) : amtT (.snd t) = amtT (.rcv t) := by
  rcases t with r | k | k | k | k | k
  · exact (if_pos (show 3 + r.val < 35 by omega)).trans (if_pos (show 19 + r.val < 35 by omega)).symm
  · exact (if_neg (show ¬ 35 + k.val < 35 by omega)).trans (if_neg (show ¬ 39 + k.val < 35 by omega)).symm
  · exact (if_neg (show ¬ 43 + k.val < 35 by omega)).trans (if_neg (show ¬ 47 + k.val < 35 by omega)).symm
  · exact (if_neg (show ¬ 51 + k.val < 35 by omega)).trans (if_neg (show ¬ 55 + k.val < 35 by omega)).symm
  · exact (if_neg (show ¬ 59 + k.val < 35 by omega)).trans (if_neg (show ¬ 61 + k.val < 35 by omega)).symm
  · exact (if_neg (show ¬ 63 + k.val < 35 by omega)).trans (if_neg (show ¬ 65 + k.val < 35 by omega)).symm

/-! ## The state -/

variable (eV : Dev nD → Fin 16 → FVec F S1x32x8192 .bf16) (sV : Dev nD → Fin 16 → FVec F S1x32x256 .f32)
variable (K : GSem nD τ sig → ℕ) (c : Dev nD)

/-- What is known throughout: every cell's invariant, that the own cells are open, the levels. -/
def known : sProp 𝕄 :=
  iprop((bigSep Finset.univ fun p : Dev nD × TC => cellInv ER (talkRd eV sV) (K (cell p.1 p.2)) (cell p.1 p.2))
    ∗ (bigSep Finset.univ fun x : TC => reached ER (cell c x) 0) ∗ levs)
instance known_persistent : BI.Persistent (known eV sV K c) := by unfold known; infer_instance

theorem known_inv (c' : Dev nD) (x : TC) : known eV sV K c ⊢ cellInv ER (talkRd eV sV) (K (cell c' x)) (cell c' x) := by
  unfold known
  exact (BI.sep_and.trans BI.and_elimL).trans (bigSep_elim (Finset.mem_univ ((c', x) : Dev nD × TC)))
theorem known_reached (x : TC) : known eV sV K c ⊢ reached ER (cell c x) 0 := by
  unfold known
  exact (BI.sep_and.trans BI.and_elimR).trans ((BI.sep_and.trans BI.and_elimL).trans (bigSep_elim (Finset.mem_univ x)))
theorem known_lev : known eV sV K c ⊢ levs := by
  unfold known
  iintro ⟨-, -, H⟩
  iexact H

/-- What starting transfer `t` takes, beside its source. -/
def sendRes (t : Tr) : sProp 𝕄 :=
  iprop(dutyTok ER (cell c (.snd t)) 0 0 ∗ dutyTok ER (cell (t.peer c) (.rcv t)) 0 0
    ∗ dstAny (F := F) t c ∗ reached ER (cell (t.peer c) (.rcv t)) 0)

/-- What storing block `r` and copying it out takes. -/
def blockRes (r : Fin 16) : sProp 𝕄 :=
  iprop(dutyTok ER (cell c (.cp r)) 0 0 ∗ (∃ f, aPt (F := F) c r (hy c) fS f) ∗ (∃ f, ePt (F := F) c r fS f) ∗ ∃ f, sPt (F := F) c r fS f)

def St (i m n j ky lo : ℕ) : sProp 𝕄 :=
  iprop(known eV sV K c
    ∗ (∃ W, owes (c : Thread nD τ) (owed c (fromT i)) W)
    ∗ bigSep (fromT i) (sendRes c)
    ∗ bigSep (fromR m) (blockRes c)
    ∗ bigSep (cs i n j) (fun x => cred (tallyAt (cell c x) () (amtT x)))
    ∗ bigSep (fromW j) (fun x => atPos ER (cell c x) 0 ∅ 0)
    ∗ bigSep (uptoW j) (fun x => semVal (cell c x) 0)
    ∗ bigSep (pool c n ky) (fun r => ePt c r rS (eB eV c))
    ∗ bigSep (uptoR n) (fun r => sPt c r rS (sB sV c))
    ∗ bigSep (kept lo j) (pay eV sV c))

variable {eV sV K c}

/-- STARTING a transfer. -/
theorem ev_send (t : Tr) {sp sp' : Space} {s : Shape} {e : EltTy} {src : Memref sig .tc sp s e} {dst : Memref sig .tc sp' s e}
    {n : Dev nD} {s1 s2 : DmaSem sig} {hsc : dst.view.ref.isScScratch = false} {h1 : src.view.WordExact} {h2 : dst.view.WordExact}
    {h3 : DmaTarget.Typed sp (.dma s2) (.remote (Dev.tc n) dst (.dma s1) hsc)}
    {α : Type} {k : PUnit → Prog (TpuEff nD τ sig (Elt F) Λ₀ .tc) α} {Q : α → sProp 𝕄} {R : sProp 𝕄}
    (q : PosShare TreeShare) (fs : Buf (Elt F) (src.view.loc (c : Thread nD τ))) {i mb nb j ky lo : ℕ}
    (ht : t.ord = i) (hn : n = t.peer c) (hs1 : s1 = wT (.snd t)) (hs2 : s2 = wT (.rcv t)) (hj : j ≤ word (.snd t))
    (hN : dst.view.dmaCredit = amtT (.rcv t))
    (hd : dstAny (F := F) t c ⊢ iprop(∃ fd, dst.view.loc (t.peer c : Thread nD τ) ↦[dst.view.set]{fS} fd))
    (hp1 : (src.view.loc (c : Thread nD τ) ↦[src.view.set]{q} fs) ⊢ pay eV sV c (.snd t))
    (hp2 : ∀ fd, (dst.view.loc (t.peer c : Thread nD τ) ↦[dst.view.set]{fS} (dst.view.write (Elt F) fd (src.view.read (Elt F) fs) Finset.univ))
      ⊢ landPay eV sV t c)
    (h : iprop(St eV sV K c (i + 1) mb nb j ky lo ∗ R) ⊢ wp frame (wpE (defs₀ (F := F)) 𝒱₀ c none) Set.univ (k ⟨⟩) Q) :
    iprop(St eV sV K c i mb nb j ky lo ∗ (src.view.loc (c : Thread nD τ) ↦[src.view.set]{q} fs) ∗ R)
      ⊢ wp frame (wpE (defs₀ (F := F)) 𝒱₀ c none) Set.univ
          (.op (.enqueueDma src (.remote (Dev.tc n) dst (.dma s1) hsc) (.dma s2) h1 h2 h3) k) Q := by
  subst hn hs1 hs2
  unfold St
  rw [fromT_pop _ ht, owed_pop c ht]
  iintro ⟨⟨#HK, ⟨%W, HO⟩, ⟨Hs, Hss⟩, HB, HC, HP, HV, He, HS, HG⟩, Hsrc, HR⟩
  unfold sendRes
  icases Hs with ⟨Ht1, Ht2, Hd, #Hr⟩
  ihave Hd' := hd $$ Hd
  icases Hd' with ⟨%fd, Hd⟩
  iapply (Rounds.wp_send_pointsTo 𝒱₀ ER (talkRd eV sV) (c : Thread nD τ) none (c' := (t.peer c : Thread nD τ)) (src := src) (dst := dst)
      (sS := .dma (wT (.snd t))) (sem := .dma (wT (.rcv t))) (q := q) (fs := fs) (κ₁ := K (cell c (.snd t))) (κ₂ := K (cell (t.peer c) (.rcv t)))
      (r₁ := 0) (r₂ := 0) (d₁ := 0) (d₂ := 0) (fd := fd)
      (by rw [duties_cell]; exact Finset.mem_singleton_self _) (by rw [duties_cell]; exact Finset.mem_singleton_self _)
      () () (amtT (.rcv t)) hN ((amount_cell eV sV c (.snd t) 0).trans (amtT_snd t)) (amount_cell eV sV (t.peer c) (.rcv t) 0)
      (owed c (fromT (i + 1))) rfl (W := W)
      (by rw [payload_cell]; exact hp1)
      (by rw [payload_cell]; refine (hp2 fd).trans (Entails.of_eq ?_); exact congrArg (landPay eV sV t) (peerD_peerD t.dir c).symm))
    $$ [Hsrc Hd HO Ht1 Ht2]
  · isplitr; · iapply (known_inv eV sV K c c (.snd t)); iexact HK
    isplitr; · iapply (known_inv eV sV K c (t.peer c) (.rcv t)); iexact HK
    isplitl [Hsrc]; · iexact Hsrc
    isplitl [Hd]; · iexact Hd
    isplitl [HO]; · iexact HO
    isplitl [Ht1]; · iexact Ht1
    isplitr; · iapply (known_reached eV sV K c (.snd t)); iexact HK
    isplitl [Ht2]; · iexact Ht2
    iexact Hr
  iintro ⟨HcS, HO⟩
  iapply h
  unfold St
  rw [cs_snd _ ht hj, amtT_snd t]
  isplitr [HR]
  · isplitr; · iexact HK
    isplitl [HO]; · iexists W; iexact HO
    isplitl [Hss]; · iexact Hss
    isplitl [HB]; · iexact HB
    isplitl [HcS HC]; · isplitl [HcS] <;> iassumption
    isplitl [HP]; · iexact HP
    isplitl [HV]; · iexact HV
    isplitl [He]; · iexact He
    isplitl [HS]; · iexact HS
    iexact HG
  · iexact HR

end Cert.KernelIdeal.Talk

end
-- ==== Proof.Events.lean ====
/-
  The talking kernel's other events: a wait, and storing one block of rows with its statistics, sending the statistics and
  copying the rows out.
-/
module

public import proofs.«01_k».proof.Proof.State

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {eV : Dev nD → Fin 16 → FVec F S1x32x8192 .bf16} {sV : Dev nD → Fin 16 → FVec F S1x32x256 .f32}
variable {K : GSem nD τ sig → ℕ} {c : Dev nD}

theorem mayWaitC (c : Dev nD) (x : TC) {i : ℕ} (hl : lvT x < 2 + i) :
    (levs : sProp 𝕄) ⊢ MayWait (c : Thread nD τ) (.dma (wT x)) () (owed c (fromT i)) := by
  unfold levs
  refine mayWait c (.dma (wT x)) (fromT i) ?_
  intro t ht
  have h2 : i ≤ t.ord := (Finset.mem_filter.mp ht).2
  have h3 : lv ((c : Thread nD τ), .dma (wT x)) () = lvT x := lvS_wT x
  refine h3.trans_lt ?_
  omega

/-- A WAIT, whatever becomes of its payload. -/
theorem ev_wait_core (x : TC) {sp sp' : Space} {s s' : Shape} {e e' : EltTy} {src : Memref sig .tc sp s e} {dst : Memref sig .tc sp' s' e'}
    {s1 : DmaSem sig} {h1 : src.view.WordExact} {h2 : dst.view.WordExact}
    {α : Type} {k : PUnit → Prog (TpuEff nD τ sig (Elt F) Λ₀ .tc) α} {Q : α → sProp 𝕄} {R R' : sProp 𝕄} {i mb n j ky lo : ℕ}
    (hj : word x = j) (hs : s1 = wT x) (ha : avail i n x) (hl : lvT x < 2 + i) (hN : dst.view.dmaCredit = amtT x)
    (hb : iprop(bigSep (kept lo j) (pay eV sV c) ∗ pay eV sV c x) ⊢ iprop(bigSep (kept lo (j + 1)) (pay eV sV c) ∗ R'))
    (h : iprop(St eV sV K c i mb n (j + 1) ky lo ∗ R' ∗ R) ⊢ wp frame (wpE (defs₀ (F := F)) 𝒱₀ c none) Set.univ (k ⟨⟩) Q) :
    iprop(St eV sV K c i mb n j ky lo ∗ R)
      ⊢ wp frame (wpE (defs₀ (F := F)) 𝒱₀ c none) Set.univ (.op (.waitDma2 s1 src dst h1 h2) k) Q := by
  subst hs hj
  have hmw := (known_lev eV sV K c).trans (mayWaitC (F := F) c x hl)
  unfold St
  rw [cs_pop _ x ha, fromW_pop _ x]
  iintro ⟨⟨#HK, ⟨%W, HO⟩, Hss, HB, ⟨Hc, HC⟩, ⟨Hat, HP⟩, HV, He, HS, HG⟩, HR⟩
  iapply (Rounds.wp_wait_rest_token 𝒱₀ ER (talkRd eV sV) (c : Thread nD τ) none (κ := K (cell c x))
      (wpE_waitDma2_eq (src := src) (dst := dst) 𝒱₀ (c : Thread nD τ) none Set.univ) (Set.mem_univ _) () (O := owed c (fromT i)) (W := W)
      (R := 0) (m := 0) (T := ∅) ((Nat.zero_add _).trans (hN.trans (expect_cell eV sV c x).symm))) $$ [Hc HO Hat]
  · isplitr; · iapply (known_inv eV sV K c c x); iexact HK
    isplitl [Hc]; · rw [hN]; iexact Hc
    isplitl [HO]; · iexact HO
    isplitr
    · iapply hmw; iexact HK
    iexact Hat
  iintro ⟨HO, Hat, -, Hpay⟩
  ihave Hp := (Entails.of_eq (rest_cell eV sV c x)) $$ Hpay
  imod (closeC eV sV (K (cell c x)) (cell c x)) $$ [Hat] with Hv
  · isplitr; · iapply (known_inv eV sV K c c x); iexact HK
    iexact Hat
  ihave Hg := hb $$ [HG Hp]
  · isplitl [HG] <;> iassumption
  icases Hg with ⟨HG, HR'⟩
  iapply h
  unfold St
  rw [uptoW_push _ x]
  isplitr [HR' HR]
  · isplitr; · iexact HK
    isplitl [HO]; · iexists _; iexact HO
    isplitl [Hss]; · iexact Hss
    isplitl [HB]; · iexact HB
    isplitl [HC]; · iexact HC
    isplitl [HP]; · iexact HP
    isplitl [Hv HV]; · isplitl [Hv] <;> iassumption
    isplitl [He]; · iexact He
    isplitl [HS]; · iexact HS
    iexact HG
  · isplitl [HR'] <;> iassumption

section Waits
variable {sp sp' : Space} {s s' : Shape} {e e' : EltTy} {src : Memref sig .tc sp s e} {dst : Memref sig .tc sp' s' e'}
    {s1 : DmaSem sig} {h1 : src.view.WordExact} {h2 : dst.view.WordExact}
    {α : Type} {k : PUnit → Prog (TpuEff nD τ sig (Elt F) Λ₀ .tc) α} {i mb n j ky lo : ℕ}

/-- A WAIT whose payload is wanted at once. -/
theorem ev_wait (x : TC) {Q : α → sProp 𝕄} {R : sProp 𝕄} (hj : word x = j) (hs : s1 = wT x) (ha : avail i n x) (hl : lvT x < 2 + i)
    (hN : dst.view.dmaCredit = amtT x) (hlo : j + 1 ≤ lo)
    (h : iprop(St eV sV K c i mb n (j + 1) ky lo ∗ pay eV sV c x ∗ R) ⊢ wp frame (wpE (defs₀ (F := F)) 𝒱₀ c none) Set.univ (k ⟨⟩) Q) :
    iprop(St eV sV K c i mb n j ky lo ∗ R)
      ⊢ wp frame (wpE (defs₀ (F := F)) 𝒱₀ c none) Set.univ (.op (.waitDma2 s1 src dst h1 h2) k) Q :=
  ev_wait_core x hj hs ha hl hN (by rw [kept_skip j hlo]) h

/-- A WAIT whose payload is kept. -/
theorem ev_keep (x : TC) {Q : α → sProp 𝕄} {R : sProp 𝕄} (hj : word x = j) (hs : s1 = wT x) (ha : avail i n x) (hl : lvT x < 2 + i)
    (hN : dst.view.dmaCredit = amtT x) (hlo : lo ≤ j)
    (h : iprop(St eV sV K c i mb n (j + 1) ky lo ∗ R) ⊢ wp frame (wpE (defs₀ (F := F)) 𝒱₀ c none) Set.univ (k ⟨⟩) Q) :
    iprop(St eV sV K c i mb n j ky lo ∗ R)
      ⊢ wp frame (wpE (defs₀ (F := F)) 𝒱₀ c none) Set.univ (.op (.waitDma2 s1 src dst h1 h2) k) Q :=
  ev_wait_core (R' := iprop(emp)) x hj hs ha hl hN (by
      subst hj
      rw [kept_push _ x hlo]
      iintro ⟨H1, H2⟩
      isplitl [H1 H2]
      · isplitl [H2] <;> iassumption
      · iempintro) (by
      refine BIBase.Entails.trans ?_ h
      iintro ⟨H1, -, H2⟩
      isplitl [H1] <;> iassumption)

end Waits

/-! ## Starting the transfers of rows -/

section Sends
variable {sp sp' : Space} {s : Shape} {e : EltTy} {n : Dev nD} {s1 s2 : DmaSem sig} {α : Type}
  {k : PUnit → Prog (TpuEff nD τ sig (Elt F) Λ₀ .tc) α} {i mb nb j ky lo : ℕ}

/-- A block of rows just computed goes across y. -/
theorem ev_y (q : Fin 4) {src : Memref sig .tc .vmem S32x8192 .bf16} {dst : Memref sig .tc .hbm S32x8192 .bf16}
    {hsc : dst.view.ref.isScScratch = false} {h1 : src.view.WordExact} {h2 : dst.view.WordExact}
    {h3 : DmaTarget.Typed .vmem (.dma s2) (.remote (Dev.tc n) dst (.dma s1) hsc)} {Q : α → sProp 𝕄} {R : sProp 𝕄}
    (ht : (Tr.y q).ord = i) (hn : n = yp c) (hs1 : s1 = wT (.snd (.y q))) (hs2 : s2 = wT (.rcv (.y q))) (hj : j ≤ word (.snd (.y q)))
    (hsrc : src = eM (own c q)) (hdst : dst = aM (own c q) (hy c)) (hnb : nb = 4 * q.val + 4) (hky : ky = q.val)
    (h : iprop(St eV sV K c (i + 1) mb nb j (ky + 1) lo ∗ R) ⊢ wp frame (wpE (defs₀ (F := F)) 𝒱₀ c none) Set.univ (k ⟨⟩) Q) :
    iprop(St eV sV K c i mb nb j ky lo ∗ R)
      ⊢ wp frame (wpE (defs₀ (F := F)) 𝒱₀ c none) Set.univ
          (.op (.enqueueDma src (.remote (Dev.tc n) dst (.dma s1) hsc) (.dma s2) h1 h2 h3) k) Q := by
  subst hsrc hdst hnb hky
  have key : iprop(St eV sV K c i mb (4 * q.val + 4) j q.val lo ∗ R)
      ⊢ iprop(St eV sV K c i mb (4 * q.val + 4) j (q.val + 1) lo ∗ ePt c (own c q) rS (eB eV c) ∗ R) := by
    unfold St
    rw [pool_pop _ c q]
    iintro ⟨⟨#HK, HO, Hss, HB, HC, HP, HV, ⟨He, HE⟩, HS, HG⟩, HR⟩
    isplitr [He HR]
    · iframe HK HO Hss HB HC HP HV HE HS HG
    · isplitl [He] <;> iassumption
  refine key.trans (ev_send (src := eM (own c q)) (dst := aM (own c q) (hy c)) (.y q) rS (eB eV c) ht hn hs1 hs2 hj (if_neg (show ¬ 39 + q.val < 35 by omega)).symm (by exact BIBase.Entails.refl) (by exact BIBase.Entails.refl) (fun fd => ?_) h)
  exact Entails.of_eq (pointsTo_congr (eCopy eV c (own c q) (hy c) fd))

/-- Rows that came across y, or across y from a neighbour, go on. -/
theorem ev_fwd (t : Tr) {src : Memref sig .tc .hbm S32x8192 .bf16} {dst : Memref sig .tc .hbm S32x8192 .bf16}
    {hsc : dst.view.ref.isScScratch = false} {h1 : src.view.WordExact} {h2 : dst.view.WordExact}
    {h3 : DmaTarget.Typed .hbm (.dma s2) (.remote (Dev.tc n) dst (.dma s1) hsc)} {Q : α → sProp 𝕄} {R : sProp 𝕄}
    (hk : t.dir ≠ 0)
    (ht : t.ord = i) (hn : n = t.peer c) (hs1 : s1 = wT (.snd t)) (hs2 : s2 = wT (.rcv t)) (hj : j ≤ word (.snd t))
    (hsrc : src = aM (fRow t c) (ho c)) (hdst : dst = aM (fRow t c) (ho c))
    (h : iprop(St eV sV K c (i + 1) mb nb j ky lo ∗ R) ⊢ wp frame (wpE (defs₀ (F := F)) 𝒱₀ c none) Set.univ (k ⟨⟩) Q) :
    iprop(St eV sV K c i mb nb j ky lo ∗ aPt c (fRow t c) (ho c) (fShare t) (eA eV (fSrc t c)) ∗ R)
      ⊢ wp frame (wpE (defs₀ (F := F)) 𝒱₀ c none) Set.univ
          (.op (.enqueueDma src (.remote (Dev.tc n) dst (.dma s1) hsc) (.dma s2) h1 h2 h3) k) Q := by
  subst hsrc hdst
  refine ev_send (src := aM (fRow t c) (ho c)) (dst := aM (fRow t c) (ho c)) t (fShare t) (eA eV (fSrc t c)) ht hn hs1 hs2 hj ?_ ?_ ?_ (fun fd => ?_) h
  · rcases t with r | q | q | q | q | q
    · exact absurd rfl hk
    · exact absurd rfl hk
    · exact (if_neg (show ¬ 47 + q.val < 35 by omega)).symm
    · exact (if_neg (show ¬ 55 + q.val < 35 by omega)).symm
    · exact (if_neg (show ¬ 61 + q.val < 35 by omega)).symm
    · exact (if_neg (show ¬ 65 + q.val < 35 by omega)).symm
  · rcases t with r | q | q | q | q | q
    · exact absurd rfl hk
    · exact absurd rfl hk
    all_goals exact BIBase.Entails.refl
  · rcases t with r | q | q | q | q | q
    · exact absurd rfl hk
    · exact absurd rfl hk
    all_goals exact BIBase.Entails.refl
  · rcases t with r | q | q | q | q | q
    · exact absurd rfl hk
    · exact absurd rfl hk
    all_goals exact Entails.of_eq (pointsTo_congr (aCopy _ _ _ fd))

end Sends

/-! ## One block of rows: stored, then sent and copied out -/

/-- What is held of block `r` between storing it and sending it. -/
def mid (eV : Dev nD → Fin 16 → FVec F S1x32x8192 .bf16) (sV : Dev nD → Fin 16 → FVec F S1x32x256 .f32) (c : Dev nD) (r : Fin 16) : sProp 𝕄 :=
  iprop(dutyTok ER (cell c (.cp r)) 0 0 ∗ (∃ f, aPt (F := F) c r (hy c) fS f) ∗ ePt c r fS (eB eV c) ∗ sPt c r fS (sB sV c))

/-- STORING a block of exponentials and its statistics; what the buffers held before is read and not used. -/
theorem ev_store (r : Fin 16) {w : FVec F S1x32x8192 .bf16} {w' : FVec F S1x32x256 .f32}
    {hl : eW.view.LoadsAt (eRect r)} {hl' : sW.view.LoadsAt (sRect r)}
    {hx : (eW.access (eRect r)).Stores Finset.univ} {hx' : (sW.access (sRect r)).Stores Finset.univ}
    {hm : (Finset.univ : Finset (eRect r).shape.Idx) = Finset.univ ∨ ∀ a, (eRect r).stride a = 1}
    {hm' : (Finset.univ : Finset (sRect r).shape.Idx) = Finset.univ ∨ ∀ a, (sRect r).stride a = 1}
    {α : Type} {k : PUnit → Prog (TpuEff nD τ sig (Elt F) Λ₀ .tc) α} {Q : α → sProp 𝕄} {R : sProp 𝕄} {i mb n j ky lo : ℕ}
    (hr : r.val = mb) (hw : w = eV c r) (hw' : w' = sV c r)
    (h : iprop(St eV sV K c i (mb + 1) n j ky lo ∗ mid eV sV c r ∗ R) ⊢ wp frame (wpE (defs₀ (F := F)) 𝒱₀ c none) Set.univ (k ⟨⟩) Q) :
    iprop(St eV sV K c i mb n j ky lo ∗ R)
      ⊢ wp frame (wpE (defs₀ (F := F)) 𝒱₀ c none) Set.univ
          (.op (.load eW (eRect r).toLoadRect hl) fun _ => .op (.store eW (eRect r) w Finset.univ hx hm) fun _ =>
            .op (.load sW (sRect r).toLoadRect hl') fun _ => .op (.store sW (sRect r) w' Finset.univ hx' hm') k) Q := by
  subst hr hw hw'
  have key : iprop(St eV sV K c i r.val n j ky lo ∗ R) ⊢ iprop(St eV sV K c i (r.val + 1) n j ky lo ∗ blockRes (F := F) c r ∗ R) := by
    unfold St
    rw [fromR_pop _ r]
    iintro ⟨⟨#HK, HO, Hss, ⟨Hb, HB⟩, HC, HP, HV, HE, HS, HG⟩, HR⟩
    isplitr [Hb HR]
    · iframe HK HO Hss HB HC HP HV HE HS HG
    · isplitl [Hb] <;> iassumption
  refine key.trans ?_
  unfold blockRes
  iintro ⟨HSt, ⟨Ht, Ha, ⟨%f, He⟩, ⟨%g, Hs⟩⟩, HR⟩
  iapply (wp_load_rect 𝒱₀ (c : Thread nD τ) none Set.univ (m := eW) (r := eRect r) (S := (eM r).view.set) (f := f) (eAcc_set r).subset) $$ He
  iintro He
  iapply (wp_store 𝒱₀ (c : Thread nD τ) none Set.univ (m := eW) (r := eRect r) (S := (eM r).view.set) (f := f)
    (by rw [View.setOn_univ]; exact (eAcc_set r).subset)) $$ He
  iintro He
  iapply (wp_load_rect 𝒱₀ (c : Thread nD τ) none Set.univ (m := sW) (r := sRect r) (S := (sM r).view.set) (f := g) (sAcc_set r).subset) $$ Hs
  iintro Hs
  iapply (wp_store 𝒱₀ (c : Thread nD τ) none Set.univ (m := sW) (r := sRect r) (S := (sM r).view.set) (f := g)
    (by rw [View.setOn_univ]; exact (sAcc_set r).subset)) $$ Hs
  iintro Hs
  iapply h
  unfold mid
  isplitl [HSt]; · iexact HSt
  isplitr [HR]
  · isplitl [Ht]; · iexact Ht
    isplitl [Ha]; · iexact Ha
    isplitl [He]
    · iapply (Entails.of_eq (pointsTo_congr (eStore eV c r f))); iexact He
    · iapply (Entails.of_eq (pointsTo_congr (sStore sV c r g))); iexact Hs
  · iexact HR

/-- SENDING a stored block's statistics across y and COPYING its rows out. -/
theorem ev_out (r : Fin 16) {ssrc : Memref sig .tc .vmem S32x256 .f32} {sdst : Memref sig .tc .vmem S32x256 .f32}
    {n : Dev nD} {s1 s2 s3 : DmaSem sig} {hsc : sdst.view.ref.isScScratch = false} {h1 : ssrc.view.WordExact} {h2 : sdst.view.WordExact}
    {h3 : DmaTarget.Typed .vmem (.dma s2) (.remote (Dev.tc n) sdst (.dma s1) hsc)}
    {esrc : Memref sig .tc .vmem S32x8192 .bf16} {edst : Memref sig .tc .hbm S32x8192 .bf16} {g1 : esrc.view.WordExact} {g2 : edst.view.WordExact}
    {g3 : DmaTarget.Typed .vmem (.dma s3) (DmaTarget.here (nD := nD) (p := (.tc : Proc τ)) edst)}
    {α : Type} {k : PUnit → Prog (TpuEff nD τ sig (Elt F) Λ₀ .tc) α} {Q : α → sProp 𝕄} {R : sProp 𝕄} {i mb nb j ky lo : ℕ}
    (hnb : r.val = nb) (ht : (Tr.st r).ord = i) (hn : n = yp c) (hs1 : s1 = wT (.snd (.st r))) (hs2 : s2 = wT (.rcv (.st r))) (hs3 : s3 = wT (.cp r))
    (hj : j ≤ 24) (hky : 4 * ky ≤ r.val)
    (hssrc : ssrc = sM r) (hsdst : sdst = rM r) (hesrc : esrc = eM r) (hedst : edst = aM r (hy c))
    (h : iprop(St eV sV K c (i + 1) mb (nb + 1) j ky lo ∗ R) ⊢ wp frame (wpE (defs₀ (F := F)) 𝒱₀ c none) Set.univ (k ⟨⟩) Q) :
    iprop(St eV sV K c i mb nb j ky lo ∗ mid eV sV c r ∗ R)
      ⊢ wp frame (wpE (defs₀ (F := F)) 𝒱₀ c none) Set.univ
          (.op (.enqueueDma ssrc (.remote (Dev.tc n) sdst (.dma s1) hsc) (.dma s2) h1 h2 h3) fun _ =>
            .op (.enqueueDma esrc (.here edst) (.dma s3) g1 g2 g3) k) Q := by
  subst hssrc hsdst hesrc hedst hs3 hnb
  have key : iprop(St eV sV K c i mb r.val j ky lo ∗ mid eV sV c r ∗ R)
      ⊢ iprop(St eV sV K c i mb r.val j ky lo ∗ sPt c r lS (sB sV c) ∗ (sPt c r rS (sB sV c)
          ∗ dutyTok ER (cell c (.cp r)) 0 0 ∗ (∃ f, aPt (F := F) c r (hy c) fS f) ∗ ePt c r fS (eB eV c) ∗ R)) := by
    unfold mid
    iintro ⟨HSt, ⟨Ht, Ha, He, Hs⟩, HR⟩
    ihave Hs2 := (pointsTo_share (PosShare.mem_left_op_right fullShare)).1 $$ Hs
    icases Hs2 with ⟨Hl, Hr⟩
    iframe
  refine key.trans (ev_send (src := sM r) (dst := rM r) (.st r) lS (sB sV c) ht hn hs1 hs2 (hj.trans (Nat.le_add_right 24 _))
    (if_pos (show 19 + r.val < 35 by omega)).symm (by exact BIBase.Entails.refl) (by exact BIBase.Entails.refl)
    (fun fd => Entails.of_eq (pointsTo_congr (sCopy sV c r fd))) ?_)
  iintro ⟨HSt, Hsr, Ht, ⟨%f, Ha⟩, He, HR⟩
  ihave He2 := (pointsTo_share (PosShare.mem_left_op_right fullShare)).1 $$ He
  icases He2 with ⟨Hel, Her⟩
  unfold St
  icases HSt with ⟨#HK, HO, Hss, HB, HC, HP, HV, HE, HS, HG⟩
  iapply (Rounds.wp_copy_pointsTo 𝒱₀ ER (talkRd eV sV) (c : Thread nD τ) none (src := eM r) (dst := aM r (hy c)) (sem := .dma (wT (.cp r))) (q := lS)
      (fs := eB eV c) (fd := f) (r := 0) (d := 0) (κ := K (cell c (.cp r)))
      (by rw [duties_cell]; exact Finset.mem_singleton_self _) () (amtT (.cp r)) (if_neg (show ¬ 67 + r.val < 35 by omega)).symm (amount_cell eV sV c (.cp r) 0)
      (by
        rw [payload_cell]
        show _ ⊢ iprop(_ ∗ _)
        rw [pointsTo_congr (eCopy eV c r (hy c) f)])) $$ [Hel Ha Ht]
  · isplitr; · iapply (known_inv eV sV K c c (.cp r)); iexact HK
    isplitl [Hel]; · iexact Hel
    isplitl [Ha]; · iexact Ha
    isplitl [Ht]; · iexact Ht
    iapply (known_reached eV sV K c (.cp r)); iexact HK
  iintro Hcr
  iapply h
  unfold St
  rw [cs_cp _ r (hj.trans (Nat.le_trans (by omega) (Nat.le_add_right 25 _))), pool_push _ c r hky, uptoR_push _ r]
  isplitr [HR]
  · isplitr; · iexact HK
    isplitl [HO]; · iexact HO
    isplitl [Hss]; · iexact Hss
    isplitl [HB]; · iexact HB
    isplitl [Hcr HC]; · isplitl [Hcr] <;> iassumption
    isplitl [HP]; · iexact HP
    isplitl [HV]; · iexact HV
    isplitl [Her HE]; · isplitl [Her] <;> iassumption
    isplitl [Hsr HS]; · isplitl [Hsr] <;> iassumption
    iexact HG
  · iexact HR

end Cert.KernelIdeal.Talk

end
-- ==== Proof.Moves.lean ====
/-
  The talking kernel's views, devices and semaphores as the program spells them, set equal to the ones the protocol names;
  what each block holds, from the rows of x and the columns of W a device loads; and the waits that hand rows on.
-/
module

public import proofs.«01_k».proof.Proof.Events

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What each block holds -/

/-- Rows `128 q …` of the staged x, and all of the staged W. -/
abbrev xRect (q : Fin 4) : Rect S512x1024 := Rect.unit (s := S512x1024) ![128 * q.val, 0] S128x1024.size (by revert q; decide)
abbrev wRect : Rect S1024x8192 := Rect.unit (s := S1024x8192) ![0, 0] S1024x8192.size (by decide)

section Values
variable (xV : Dev nD → Fin 4 → FVec F S128x1024 .f32) (wV : Dev nD → FVec F S1024x8192 .f32)

/-- Block `r` of device `c`'s exponentials, rounded. -/
def eV (c : Dev nD) (r : Fin 16) : FVec F S1x32x8192 .bf16 :=
  let x := xV c ⟨r.val / 4, by omega⟩
  match (⟨r.val % 4, by omega⟩ : Fin 4) with
  | 0 => k0_pay6 x (wV c)
  | 1 => k0_pay8 (k0_pay5 x (wV c))
  | 2 => k0_pay10 (k0_pay5 x (wV c))
  | 3 => k0_pay12 (k0_pay5 x (wV c))
/-- Block `r` of its statistics: each row's maximum in the left half, each row's sum in the right half. -/
def sV (c : Dev nD) (r : Fin 16) : FVec F S1x32x256 .f32 :=
  let x := xV c ⟨r.val / 4, by omega⟩
  match (⟨r.val % 4, by omega⟩ : Fin 4) with
  | 0 => k0_pay7 x (wV c)
  | 1 => k0_pay9 (k0_pay2 x (wV c)) (k0_pay4 x (wV c))
  | 2 => k0_pay11 (k0_pay2 x (wV c)) (k0_pay4 x (wV c))
  | 3 => k0_pay13 (k0_pay2 x (wV c)) (k0_pay4 x (wV c))
end Values

/-! ## Views and devices -/

theorem aM_of {o : Fin 2 → ℕ} {hi : ∀ a, o a + S32x8192.size a ≤ S512x16384.size a} {r : Fin 16} {h : Fin 2} (e : o = ![32 * r.val, 8192 * h.val]) :
    aW.slice (Rect.unit (s := S512x16384) o S32x8192.size hi) (fun _ => rfl) = aM r h := by subst e; rfl
theorem eM_of {o : Fin 3 → ℕ} {hi : ∀ a, o a + S1x32x8192.size a ≤ S16x32x8192.size a} {r : Fin 16} (e : o = ![r.val, 0, 0]) :
    (eW.slice (Rect.unit (s := S16x32x8192) o S1x32x8192.size hi) (fun _ => rfl)).squeeze S32x8192 squeezes_S1x32x8192_S32x8192 = eM r := by subst e; rfl

theorem dev_of {k : ℕ} {d : Dev nD} {h : k < nD} (e : k = d.val) : (⟨k, h⟩ : Dev nD) = d := Fin.ext e

theorem ypVal (c : Dev nD) : (yp c).val = (8 * (c.val / 8) + c.val % 4 + 4) - 4 * (c.val / 4 % 2) := by revert c; decide +kernel
theorem xpVal (c : Dev nD) : (xp c).val = (4 * (c.val / 4 % 2) + c.val % 4 + 8) - 8 * (c.val / 8) := by revert c; decide +kernel

theorem dY {f : Dev nD → ℕ} (h : ∀ d, f d = (8 * (d.val / 8) + d.val % 4 + 4) - 4 * (d.val / 4 % 2)) (c : Dev nD) {hl : f c < nD} :
    (⟨f c, hl⟩ : Dev nD) = yp c := dev_of ((h c).trans (ypVal c).symm)
theorem dX {f : Dev nD → ℕ} (h : ∀ d, f d = (4 * (d.val / 4 % 2) + d.val % 4 + 8) - 8 * (d.val / 8)) (c : Dev nD) {hl : f c < nD} :
    (⟨f c, hl⟩ : Dev nD) = xp c := dev_of ((h c).trans (xpVal c).symm)
theorem dZ {f : Dev nD → ℕ} (h : ∀ d, f d = (zp d).val) (c : Dev nD) {hl : f c < nD} : (⟨f c, hl⟩ : Dev nD) = zp c := dev_of (h c)

/-- The rows a device sends across y, where it writes them and where it reads them. -/
theorem offY : ∀ (c : Dev nD) (q : Fin 4), k0_off5 c (BitVec.ofNat 32 (4 * q.val)) = ![32 * (own c q).val, 8192 * (hy c).val] := by decide +kernel
theorem offE : ∀ (c : Dev nD) (q : Fin 4), k0_off6 c (BitVec.ofNat 32 (4 * q.val)) = ![(own c q).val, 0, 0] := by decide +kernel
/-- The rows it passes on. -/
theorem offD : ∀ (c : Dev nD) (q : Fin 4), k0_off11 c (BitVec.ofNat 32 (4 * q.val)) = ![32 * (own c q).val, 8192 * (ho c).val] := by decide +kernel
theorem offZ : ∀ (c : Dev nD) (q : Fin 2), k0_off16 c (BitVec.ofNat 32 (4 * q.val)) = ![32 * (fRow (.zt q) c).val, 8192 * (ho c).val] := by decide +kernel
theorem offX : ∀ (c : Dev nD) (q : Fin 2), k0_off21 c (BitVec.ofNat 32 (8 + 4 * q.val)) = ![32 * (fRow (.xt q) c).val, 8192 * (ho c).val] := by decide +kernel

/-! ## Rows handed on -/

section Hand
variable (eV : Dev nD → Fin 16 → FVec F S1x32x8192 .bf16) (sV : Dev nD → Fin 16 → FVec F S1x32x256 .f32)

/-- What a forwarding transfer takes: the rows it passes on, at its share. -/
abbrev fw (t : Tr) (c : Dev nD) : sProp 𝕄 := aPt c (fRow t c) (ho c) (fShare t) (eA eV (fSrc t c))

theorem own_yp (c : Dev nD) (k : Fin 4) : own (yp c) k = own c k := by revert c k; decide +kernel
theorem hy_yp : ∀ c, hy (yp c) = ho c := by decide +kernel
theorem ho_xp : ∀ c, ho (xp c) = ho c := by decide +kernel
theorem ho_zp : ∀ c, ho (zp c) = ho c := by decide +kernel

theorem hand_y (c : Dev nD) (k : Fin 4) : pay eV sV c (.rcv (.y k)) ⊢ iprop(fw eV (.xd k) c ∗ fw eV (.zd k) c) := by
  show aPt (yp (yp c)) (own (yp c) k) (hy (yp c)) fS (eA eV (yp c)) ⊢ _
  rw [yp_yp, own_yp, hy_yp]
  exact (pointsTo_share (PosShare.mem_left_op_right fullShare)).1
theorem hand_x (c : Dev nD) (k : Fin 2) : pay eV sV c (.rcv (.xd ⟨k.val, by omega⟩)) ⊢ fw eV (.zt k) c := by
  show aPt (xp (xp c)) (own (xp c) _) (ho (xp c)) fS (eA eV (yp (xp c))) ⊢ _
  rw [xp_xp, ho_xp]
  exact BIBase.Entails.refl
theorem hand_z (c : Dev nD) (k : Fin 2) : pay eV sV c (.rcv (.zd ⟨2 + k.val, by omega⟩)) ⊢ fw eV (.xt k) c := by
  show aPt (zp (zp c)) (own (zp c) _) (ho (zp c)) fS (eA eV (yp (zp c))) ⊢ _
  rw [zp_zp, ho_zp]
  exact BIBase.Entails.refl
end Hand

/-! ## Loading x and W -/

section Load
variable {A0 : Memref sig .tc .vmem S512x1024 .f32} {A1 : Memref sig .tc .vmem S1024x8192 .f32} (c : Dev nD)

/-- The staged operands, at contents whose reads are named. -/
def ins (A0 : Memref sig .tc .vmem S512x1024 .f32) (A1 : Memref sig .tc .vmem S1024x8192 .f32)
    (xV : Dev nD → Fin 4 → FVec F S128x1024 .f32) (wV : Dev nD → FVec F S1024x8192 .f32) (c : Dev nD)
    (f0 : Buf (Elt F) (A0.view.loc (c : Thread nD τ))) (f1 : Buf (Elt F) (A1.view.loc (c : Thread nD τ))) : sProp 𝕄 :=
  iprop(⌜(∀ q, (A0.access (xRect q)).read (Elt F) f0 = xV c q) ∧ (A1.access wRect).read (Elt F) f1 = wV c⌝
    ∗ (A0.view.loc (c : Thread nD τ) ↦[A0.view.set]{fS} f0) ∗ (A1.view.loc (c : Thread nD τ) ↦[A1.view.set]{fS} f1))

variable {xV : Dev nD → Fin 4 → FVec F S128x1024 .f32} {wV : Dev nD → FVec F S1024x8192 .f32} {c}
  {f0 : Buf (Elt F) (A0.view.loc (c : Thread nD τ))} {f1 : Buf (Elt F) (A1.view.loc (c : Thread nD τ))}

theorem ev_xw (q : Fin 4) {hl : A0.view.LoadsAt (xRect q)} {hl' : A1.view.LoadsAt wRect}
    {α : Type} {k : ((xRect q).toLoadRect.shape.Idx → Elt F .f32) → (wRect.toLoadRect.shape.Idx → Elt F .f32) → Prog (TpuEff nD τ sig (Elt F) Λ₀ .tc) α} {Q : α → sProp 𝕄} {P R : sProp 𝕄}
    (h : iprop(P ∗ ins A0 A1 xV wV c f0 f1 ∗ R) ⊢ wp frame (wpE (defs₀ (F := F)) 𝒱₀ c none) Set.univ (k (xV c q) (wV c)) Q) :
    iprop(P ∗ ins A0 A1 xV wV c f0 f1 ∗ R)
      ⊢ wp frame (wpE (defs₀ (F := F)) 𝒱₀ c none) Set.univ
          (.op (.load A0 (xRect q).toLoadRect hl) fun x => .op (.load A1 wRect.toLoadRect hl') fun w => k x w) Q := by
  unfold ins at h ⊢
  iintro ⟨HP, ⟨%e, H0, H1⟩, HR⟩
  iapply (wp_load_rect 𝒱₀ (c : Thread nD τ) none Set.univ (m := A0) (r := xRect q) (S := A0.view.set) (f := f0) (View.set_slice_subset _ _)) $$ H0
  iintro H0
  iapply (wp_load_rect 𝒱₀ (c : Thread nD τ) none Set.univ (m := A1) (r := wRect) (S := A1.view.set) (f := f1) (View.set_slice_subset _ _)) $$ H1
  iintro H1
  rw [e.1 q, e.2]
  iapply h
  iframe HP H0 H1 HR
  ipureintro; exact e
end Load

end Cert.KernelIdeal.Talk

end
-- ==== Proof.Parts1.lean ====
/-
  The first half of the talking kernel's body, part by part: storing the blocks, sending, and passing rows on.
-/
module

public import proofs.«01_k».proof.Proof.Moves

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A part of the body at the kernel's own buffers and semaphores. -/
abbrev ap {X : Sort*} (A0 : Memref sig .tc .vmem S512x1024 .f32) (h0 : A0.IsWhole) (A1 : Memref sig .tc .vmem S1024x8192 .f32) (h1 : A1.IsWhole)
    (A3 : Memref sig .tc .vmem S512x256 .f32) (h3 : A3.IsWhole)
    (p : (a0 : Memref sig .tc .vmem S512x1024 .f32) → a0.IsWhole → (a1 : Memref sig .tc .vmem S1024x8192 .f32) → a1.IsWhole →
      (a2 : Memref sig .tc .hbm S512x16384 .bf16) → a2.IsWhole → (a3 : Memref sig .tc .vmem S512x256 .f32) → a3.IsWhole →
      (a4 : Memref sig .tc .vmem S16x32x8192 .bf16) → a4.IsWhole → (a5 : Memref sig .tc .vmem S16x32x256 .f32) → a5.IsWhole →
      (a6 : Memref sig .tc .vmem S16x32x256 .f32) → a6.IsWhole →
      DmaSems sig S16 → DmaSems sig S16 → DmaSems sig S4 → DmaSems sig S4 → DmaSems sig S4 → DmaSems sig S4 → DmaSems sig S4 → DmaSems sig S4 →
      DmaSems sig S2 → DmaSems sig S2 → DmaSems sig S2 → DmaSems sig S2 → DmaSems sig S16 → X) : X :=
  p A0 h0 A1 h1 aW (Memref.isWhole_whole _) A3 h3 eW (Memref.isWhole_whole _) sW (Memref.isWhole_whole _) rW (Memref.isWhole_whole _)
    cc0_scratch3 cc0_scratch4 cc0_scratch5 cc0_scratch6 cc0_scratch7 cc0_scratch8 cc0_scratch9 cc0_scratch10 cc0_scratch11 cc0_scratch12
    cc0_scratch13 cc0_scratch14 cc0_scratch15

abbrev run (c : Dev nD) {α : Type} (p : Prog (TpuEff nD τ sig (Elt F) Λ₀ .tc) α) (Q : α → sProp 𝕄) : sProp 𝕄 :=
  wp frame (wpE (defs₀ (F := F)) 𝒱₀ c none) Set.univ p Q

theorem run_pure {c : Dev nD} {α : Type} {a : α} {Q : α → sProp 𝕄} {P : sProp 𝕄} (h : P ⊢ Q a) : P ⊢ run c (.ret a) Q :=
  h.trans fupd_intro

variable {A0 : Memref sig .tc .vmem S512x1024 .f32} {h0 : A0.IsWhole} {A1 : Memref sig .tc .vmem S1024x8192 .f32} {h1 : A1.IsWhole}
  {A3 : Memref sig .tc .vmem S512x256 .f32} {h3 : A3.IsWhole}
variable {xV : Dev nD → Fin 4 → FVec F S128x1024 .f32} {wV : Dev nD → FVec F S1024x8192 .f32}
variable {K : GSem nD τ sig → ℕ} {c : Dev nD} {R : sProp (MT nD τ sig Unit (Elt F) ℕ UU ℕ)}
variable {f0 : Buf (Elt F) (A0.view.loc (c : Thread nD τ))} {f1 : Buf (Elt F) (A1.view.loc (c : Thread nD τ))}

/-- The state, at the kernel's values. -/
abbrev St' (xV : Dev nD → Fin 4 → FVec F S128x1024 .f32) (wV : Dev nD → FVec F S1024x8192 .f32) (K : GSem nD τ sig → ℕ) (c : Dev nD)
    (i m n j ky lo : ℕ) : sProp 𝕄 := St (eV xV wV) (sV xV wV) K c i m n j ky lo
abbrev mid' (xV : Dev nD → Fin 4 → FVec F S128x1024 .f32) (wV : Dev nD → FVec F S1024x8192 .f32) (c : Dev nD) (r : Fin 16) : sProp 𝕄 :=
  mid (eV xV wV) (sV xV wV) c r
abbrev fw' (xV : Dev nD → Fin 4 → FVec F S128x1024 .f32) (wV : Dev nD → FVec F S1024x8192 .f32) (t : Tr) (c : Dev nD) : sProp 𝕄 := fw (eV xV wV) t c

theorem sep_mono_left {M : Type} [URA M] {P P' R : sProp M} (h : P ⊢ P') : iprop(P ∗ R) ⊢ iprop(P' ∗ R) := sep_mono h (BIBase.Entails.refl)
theorem sep_mono_right {M : Type} [URA M] {P R R' : sProp M} (h : R ⊢ R') : iprop(P ∗ R) ⊢ iprop(P ∗ R') := sep_mono (BIBase.Entails.refl) h
theorem regroup {M : Type} [URA M] {P A B R : sProp M} : iprop(P ∗ (A ∗ B) ∗ R) ⊢ iprop(P ∗ A ∗ B ∗ R) := by
  iintro ⟨HP, ⟨HA, HB⟩, HR⟩; iframe HP HA HB HR
theorem swap3 {M : Type} [URA M] {P A B R : sProp M} : iprop(P ∗ A ∗ B ∗ R) ⊢ iprop(P ∗ B ∗ A ∗ R) := by
  iintro ⟨HP, HA, HB, HR⟩; iframe HP HB HA HR

section Words
variable {Q : BitVec 32 → sProp (MT nD τ sig Unit (Elt F) ℕ UU ℕ)} {w1 w2 w3 w4 w5 w6 w7 w8 : BitVec 32}

theorem part3 (h : ∀ w, iprop(St' xV wV K c 1 2 1 0 0 8 ∗ mid' xV wV c 1 ∗ R) ⊢ Q w) :
    iprop(St' xV wV K c 0 1 0 0 0 8 ∗ mid' xV wV c 0 ∗ R)
      ⊢ run c (ap A0 h0 A1 h1 A3 h3 k0_part3 c w1 w2 w3 (k0_pay2 (xV c 0) (wV c)) (k0_pay4 (xV c 0) (wV c)) (k0_pay5 (xV c 0) (wV c)) w4) Q := by
  rw [k0_part3_eq_skeleton]; unfold ap k0_part3_skel; simp only [Prog.lift, Prog.bind_op, Prog.bind_ret, Prog.pure_eq_ret]
  refine ev_out 0 rfl rfl (dY k0_dev4_eq c) rfl rfl rfl (by decide) (by decide) rfl rfl rfl (aM_of (k0_off1_eq c)) ?_
  refine ev_store 1 rfl rfl rfl ?_
  exact run_pure (h _)

theorem part4 (h : ∀ w, iprop(St' xV wV K c 2 3 2 0 0 8 ∗ mid' xV wV c 2 ∗ R) ⊢ Q w) :
    iprop(St' xV wV K c 1 2 1 0 0 8 ∗ mid' xV wV c 1 ∗ R)
      ⊢ run c (ap A0 h0 A1 h1 A3 h3 k0_part4 c w1 w2 w3 (k0_pay2 (xV c 0) (wV c)) (k0_pay4 (xV c 0) (wV c)) (k0_pay5 (xV c 0) (wV c)) w4) Q := by
  rw [k0_part4_eq_skeleton]; unfold ap k0_part4_skel; simp only [Prog.lift, Prog.bind_op, Prog.bind_ret, Prog.pure_eq_ret]
  refine ev_out 1 rfl rfl (dY k0_dev5_eq c) rfl rfl rfl (by decide) (by decide) rfl rfl rfl (aM_of (k0_off2_eq c)) ?_
  refine ev_store 2 rfl rfl rfl ?_
  exact run_pure (h _)

theorem part5 (h : ∀ w, iprop(St' xV wV K c 3 4 3 0 0 8 ∗ mid' xV wV c 3 ∗ R) ⊢ Q w) :
    iprop(St' xV wV K c 2 3 2 0 0 8 ∗ mid' xV wV c 2 ∗ R)
      ⊢ run c (ap A0 h0 A1 h1 A3 h3 k0_part5 c w1 w2 w3 (k0_pay2 (xV c 0) (wV c)) (k0_pay4 (xV c 0) (wV c)) (k0_pay5 (xV c 0) (wV c)) w4) Q := by
  rw [k0_part5_eq_skeleton]; unfold ap k0_part5_skel; simp only [Prog.lift, Prog.bind_op, Prog.bind_ret, Prog.pure_eq_ret]
  refine ev_out 2 rfl rfl (dY k0_dev6_eq c) rfl rfl rfl (by decide) (by decide) rfl rfl rfl (aM_of (k0_off3_eq c)) ?_
  refine ev_store 3 rfl rfl rfl ?_
  exact run_pure (h _)

theorem part14 (h : ∀ w, iprop(St' xV wV K c 13 10 9 1 2 8 ∗ mid' xV wV c 9 ∗ R) ⊢ Q w) :
    iprop(St' xV wV K c 12 9 8 1 2 8 ∗ mid' xV wV c 8 ∗ R)
      ⊢ run c (ap A0 h0 A1 h1 A3 h3 k0_part14 c w1 w2 w3 (k0_pay2 (xV c 2) (wV c)) (k0_pay4 (xV c 2) (wV c)) (k0_pay5 (xV c 2) (wV c)) w4) Q := by
  rw [k0_part14_eq_skeleton]; unfold ap k0_part14_skel; simp only [Prog.lift, Prog.bind_op, Prog.bind_ret, Prog.pure_eq_ret]
  refine ev_out 8 rfl rfl (dY k0_dev16_eq c) rfl rfl rfl (by decide) (by decide) rfl rfl rfl (aM_of (k0_off12_eq c)) ?_
  refine ev_store 9 rfl rfl rfl ?_
  exact run_pure (h _)

theorem part15 (h : ∀ w, iprop(St' xV wV K c 14 11 10 1 2 8 ∗ mid' xV wV c 10 ∗ R) ⊢ Q w) :
    iprop(St' xV wV K c 13 10 9 1 2 8 ∗ mid' xV wV c 9 ∗ R)
      ⊢ run c (ap A0 h0 A1 h1 A3 h3 k0_part15 c w1 w2 w3 (k0_pay2 (xV c 2) (wV c)) (k0_pay4 (xV c 2) (wV c)) (k0_pay5 (xV c 2) (wV c)) w4) Q := by
  rw [k0_part15_eq_skeleton]; unfold ap k0_part15_skel; simp only [Prog.lift, Prog.bind_op, Prog.bind_ret, Prog.pure_eq_ret]
  refine ev_out 9 rfl rfl (dY k0_dev17_eq c) rfl rfl rfl (by decide) (by decide) rfl rfl rfl (aM_of (k0_off13_eq c)) ?_
  refine ev_store 10 rfl rfl rfl ?_
  exact run_pure (h _)

theorem part16 (h : ∀ w, iprop(St' xV wV K c 15 12 11 1 2 8 ∗ mid' xV wV c 11 ∗ R) ⊢ Q w) :
    iprop(St' xV wV K c 14 11 10 1 2 8 ∗ mid' xV wV c 10 ∗ R)
      ⊢ run c (ap A0 h0 A1 h1 A3 h3 k0_part16 c w1 w2 w3 (k0_pay2 (xV c 2) (wV c)) (k0_pay4 (xV c 2) (wV c)) (k0_pay5 (xV c 2) (wV c)) w4) Q := by
  rw [k0_part16_eq_skeleton]; unfold ap k0_part16_skel; simp only [Prog.lift, Prog.bind_op, Prog.bind_ret, Prog.pure_eq_ret]
  refine ev_out 10 rfl rfl (dY k0_dev18_eq c) rfl rfl rfl (by decide) (by decide) rfl rfl rfl (aM_of (k0_off14_eq c)) ?_
  refine ev_store 11 rfl rfl rfl ?_
  exact run_pure (h _)

theorem part17 (h : ∀ w, iprop(St' xV wV K c 17 12 12 1 3 8 ∗ R) ⊢ Q w) :
    iprop(St' xV wV K c 15 12 11 1 2 8 ∗ mid' xV wV c 11 ∗ R)
      ⊢ run c (ap A0 h0 A1 h1 A3 h3 k0_part17 c w1 w2 w3 w4 w5) Q := by
  rw [k0_part17_eq_skeleton]; unfold ap k0_part17_skel; simp only [Prog.lift, Prog.bind_op, Prog.bind_ret, Prog.pure_eq_ret]
  refine ev_out 11 rfl rfl (dY k0_dev19_eq c) rfl rfl rfl (by decide) (by decide) rfl rfl rfl (aM_of (k0_off15_eq c)) ?_
  refine ev_y 2 rfl (dY k0_dev20_eq c) rfl rfl (by decide) (eM_of (offE c 2)) (aM_of (offY c 2)) rfl rfl ?_
  exact run_pure (h _)

theorem part21 (h : ∀ w, iprop(St' xV wV K c 21 14 13 3 3 8 ∗ mid' xV wV c 13 ∗ R) ⊢ Q w) :
    iprop(St' xV wV K c 20 13 12 3 3 8 ∗ mid' xV wV c 12 ∗ R)
      ⊢ run c (ap A0 h0 A1 h1 A3 h3 k0_part21 c w1 w2 w3 (k0_pay2 (xV c 3) (wV c)) (k0_pay4 (xV c 3) (wV c)) (k0_pay5 (xV c 3) (wV c)) w4) Q := by
  rw [k0_part21_eq_skeleton]; unfold ap k0_part21_skel; simp only [Prog.lift, Prog.bind_op, Prog.bind_ret, Prog.pure_eq_ret]
  refine ev_out 12 rfl rfl (dY k0_dev24_eq c) rfl rfl rfl (by decide) (by decide) rfl rfl rfl (aM_of (k0_off17_eq c)) ?_
  refine ev_store 13 rfl rfl rfl ?_
  exact run_pure (h _)

theorem part22 (h : ∀ w, iprop(St' xV wV K c 22 15 14 3 3 8 ∗ mid' xV wV c 14 ∗ R) ⊢ Q w) :
    iprop(St' xV wV K c 21 14 13 3 3 8 ∗ mid' xV wV c 13 ∗ R)
      ⊢ run c (ap A0 h0 A1 h1 A3 h3 k0_part22 c w1 w2 w3 (k0_pay2 (xV c 3) (wV c)) (k0_pay4 (xV c 3) (wV c)) (k0_pay5 (xV c 3) (wV c)) w4) Q := by
  rw [k0_part22_eq_skeleton]; unfold ap k0_part22_skel; simp only [Prog.lift, Prog.bind_op, Prog.bind_ret, Prog.pure_eq_ret]
  refine ev_out 13 rfl rfl (dY k0_dev25_eq c) rfl rfl rfl (by decide) (by decide) rfl rfl rfl (aM_of (k0_off18_eq c)) ?_
  refine ev_store 14 rfl rfl rfl ?_
  exact run_pure (h _)

theorem part23 (h : ∀ w, iprop(St' xV wV K c 23 16 15 3 3 8 ∗ mid' xV wV c 15 ∗ R) ⊢ Q w) :
    iprop(St' xV wV K c 22 15 14 3 3 8 ∗ mid' xV wV c 14 ∗ R)
      ⊢ run c (ap A0 h0 A1 h1 A3 h3 k0_part23 c w1 w2 w3 (k0_pay2 (xV c 3) (wV c)) (k0_pay4 (xV c 3) (wV c)) (k0_pay5 (xV c 3) (wV c)) w4) Q := by
  rw [k0_part23_eq_skeleton]; unfold ap k0_part23_skel; simp only [Prog.lift, Prog.bind_op, Prog.bind_ret, Prog.pure_eq_ret]
  refine ev_out 14 rfl rfl (dY k0_dev26_eq c) rfl rfl rfl (by decide) (by decide) rfl rfl rfl (aM_of (k0_off19_eq c)) ?_
  refine ev_store 15 rfl rfl rfl ?_
  exact run_pure (h _)

theorem part24 (h : ∀ w, iprop(St' xV wV K c 25 16 16 3 4 8 ∗ R) ⊢ Q w) :
    iprop(St' xV wV K c 23 16 15 3 3 8 ∗ mid' xV wV c 15 ∗ R)
      ⊢ run c (ap A0 h0 A1 h1 A3 h3 k0_part24 c w1 w2 w3 w4 w5) Q := by
  rw [k0_part24_eq_skeleton]; unfold ap k0_part24_skel; simp only [Prog.lift, Prog.bind_op, Prog.bind_ret, Prog.pure_eq_ret]
  refine ev_out 15 rfl rfl (dY k0_dev27_eq c) rfl rfl rfl (by decide) (by decide) rfl rfl rfl (aM_of (k0_off20_eq c)) ?_
  refine ev_y 3 rfl (dY k0_dev28_eq c) rfl rfl (by decide) (eM_of (offE c 3)) (aM_of (offY c 3)) rfl rfl ?_
  exact run_pure (h _)

theorem part12 (h : ∀ w, iprop(St' xV wV K c 11 8 8 1 2 8 ∗ fw' xV wV (.zd 0) c ∗ R) ⊢ Q w) :
    iprop(St' xV wV K c 10 8 8 0 2 8 ∗ R)
      ⊢ run c (ap A0 h0 A1 h1 A3 h3 k0_part12 c w1 w2 w3 w4 w5 w6) Q := by
  rw [k0_part12_eq_skeleton]; unfold ap k0_part12_skel; simp only [Prog.lift, Prog.bind_op, Prog.bind_ret, Prog.pure_eq_ret]
  refine ev_wait (.rcv (.y 0)) rfl rfl trivial (by decide) rfl (by decide) ?_
  refine (sep_mono_right (sep_mono_left (hand_y _ _ c 0))).trans ?_
  refine regroup.trans ?_
  refine ev_fwd (.xd 0) (by decide) rfl (dX k0_dev14_eq c) rfl rfl (by decide) (aM_of (offD c 0)) (aM_of (offD c 0)) ?_
  exact run_pure (h _)

theorem part19 (h : ∀ w, iprop(St' xV wV K c 19 12 12 3 3 8 ∗ fw' xV wV (.zt 0) c ∗ R) ⊢ Q w) :
    iprop(St' xV wV K c 18 12 12 2 3 8 ∗ fw' xV wV (.zd 1) c ∗ R)
      ⊢ run c (ap A0 h0 A1 h1 A3 h3 k0_part19 c w1 w2 w3 w4 w5 w6) Q := by
  rw [k0_part19_eq_skeleton]; unfold ap k0_part19_skel; simp only [Prog.lift, Prog.bind_op, Prog.bind_ret, Prog.pure_eq_ret]
  refine ev_fwd (.zd 1) (by decide) rfl (dZ (f := k0_dev22) (by decide +kernel) c) rfl rfl (by decide) (aM_of (offD c 1)) (aM_of (offD c 1)) ?_
  refine ev_wait (.rcv (.xd 0)) rfl rfl trivial (by decide) rfl (by decide) ?_
  refine (sep_mono_right (sep_mono_left (hand_x _ _ c 0))).trans ?_
  exact run_pure (h _)

theorem part26 (h : ∀ w, iprop(St' xV wV K c 27 16 16 5 4 8 ∗ fw' xV wV (.zt 1) c ∗ R) ⊢ Q w) :
    iprop(St' xV wV K c 26 16 16 4 4 8 ∗ fw' xV wV (.zd 2) c ∗ R)
      ⊢ run c (ap A0 h0 A1 h1 A3 h3 k0_part26 c w1 w2 w3 w4 w5 w6) Q := by
  rw [k0_part26_eq_skeleton]; unfold ap k0_part26_skel; simp only [Prog.lift, Prog.bind_op, Prog.bind_ret, Prog.pure_eq_ret]
  refine ev_fwd (.zd 2) (by decide) rfl (dZ (f := k0_dev30) (by decide +kernel) c) rfl rfl (by decide) (aM_of (offD c 2)) (aM_of (offD c 2)) ?_
  refine ev_wait (.rcv (.xd 1)) rfl rfl trivial (by decide) rfl (by decide) ?_
  refine (sep_mono_right (sep_mono_left (hand_x _ _ c 1))).trans ?_
  exact run_pure (h _)

theorem part28 (h : ∀ w, iprop(St' xV wV K c 30 16 16 7 4 8 ∗ fw' xV wV (.xt 0) c ∗ R) ⊢ Q w) :
    iprop(St' xV wV K c 28 16 16 6 4 8 ∗ fw' xV wV (.xd 3) c ∗ fw' xV wV (.zd 3) c ∗ R)
      ⊢ run c (ap A0 h0 A1 h1 A3 h3 k0_part28 c w1 w2 w3 w4) Q := by
  rw [k0_part28_eq_skeleton]; unfold ap k0_part28_skel; simp only [Prog.lift, Prog.bind_op, Prog.bind_ret, Prog.pure_eq_ret]
  refine ev_fwd (.xd 3) (by decide) rfl (dX k0_dev32_eq c) rfl rfl (by decide) (aM_of (offD c 3)) (aM_of (offD c 3)) ?_
  refine ev_fwd (.zd 3) (by decide) rfl (dZ (f := k0_dev33) (by decide +kernel) c) rfl rfl (by decide) (aM_of (offD c 3)) (aM_of (offD c 3)) ?_
  refine ev_wait (.rcv (.zd 2)) rfl rfl trivial (by decide) rfl (by decide) ?_
  refine (sep_mono_right (sep_mono_left (hand_z _ _ c 0))).trans ?_
  exact run_pure (h _)

theorem part29 (h : ∀ w, iprop(St' xV wV K c 31 16 16 8 4 8 ∗ fw' xV wV (.xt 1) c ∗ R) ⊢ Q w) :
    iprop(St' xV wV K c 30 16 16 7 4 8 ∗ fw' xV wV (.xt 0) c ∗ R)
      ⊢ run c (ap A0 h0 A1 h1 A3 h3 k0_part29 c w1 w2 w3 w4 w5 w6 w7) Q := by
  rw [k0_part29_eq_skeleton]; unfold ap k0_part29_skel; simp only [Prog.lift, Prog.bind_op, Prog.bind_ret, Prog.pure_eq_ret]
  refine ev_fwd (.xt 0) (by decide) rfl (dX k0_dev34_eq c) rfl rfl (by decide) (aM_of (offX c 0)) (aM_of (offX c 0)) ?_
  refine ev_wait (.rcv (.zd 3)) rfl rfl trivial (by decide) rfl (by decide) ?_
  refine (sep_mono_right (sep_mono_left (hand_z _ _ c 1))).trans ?_
  exact run_pure (h _)

end Words

section Units
variable {Q : PUnit → sProp (MT nD τ sig Unit (Elt F) ℕ UU ℕ)} {w1 w2 w3 w4 w5 w6 w7 w8 : BitVec 32}

theorem part6 (h : iprop(St' xV wV K c 4 4 4 0 0 8 ∗ R) ⊢ Q ⟨⟩) :
    iprop(St' xV wV K c 3 4 3 0 0 8 ∗ mid' xV wV c 3 ∗ R)
      ⊢ run c (ap A0 h0 A1 h1 A3 h3 k0_part6 c w1 w2 w3 w4 w5) Q := by
  rw [k0_part6_eq_skeleton]; unfold ap k0_part6_skel; simp only [Prog.lift, Prog.bind_op, Prog.bind_ret, Prog.pure_eq_ret]
  refine ev_out 3 rfl rfl (dY k0_dev7_eq c) rfl rfl rfl (by decide) (by decide) rfl rfl rfl (aM_of (k0_off4_eq c)) ?_
  exact run_pure h

theorem part8 (h : iprop(St' xV wV K c 6 6 5 0 1 8 ∗ mid' xV wV c 5 ∗ R) ⊢ Q ⟨⟩) :
    iprop(St' xV wV K c 5 5 4 0 1 8 ∗ mid' xV wV c 4 ∗ R)
      ⊢ run c (ap A0 h0 A1 h1 A3 h3 k0_part8 c w1 w2 w3 (k0_pay2 (xV c 1) (wV c)) (k0_pay4 (xV c 1) (wV c)) (k0_pay5 (xV c 1) (wV c))) Q := by
  rw [k0_part8_eq_skeleton]; unfold ap k0_part8_skel; simp only [Prog.lift, Prog.bind_op, Prog.bind_ret, Prog.pure_eq_ret]
  refine ev_out 4 rfl rfl (dY k0_dev9_eq c) rfl rfl rfl (by decide) (by decide) rfl rfl rfl (aM_of (k0_off7_eq c)) ?_
  refine ev_store 5 rfl rfl rfl ?_
  exact run_pure h

theorem part9 (h : iprop(St' xV wV K c 7 7 6 0 1 8 ∗ mid' xV wV c 6 ∗ R) ⊢ Q ⟨⟩) :
    iprop(St' xV wV K c 6 6 5 0 1 8 ∗ mid' xV wV c 5 ∗ R)
      ⊢ run c (ap A0 h0 A1 h1 A3 h3 k0_part9 c w1 w2 w3 (k0_pay2 (xV c 1) (wV c)) (k0_pay4 (xV c 1) (wV c)) (k0_pay5 (xV c 1) (wV c))) Q := by
  rw [k0_part9_eq_skeleton]; unfold ap k0_part9_skel; simp only [Prog.lift, Prog.bind_op, Prog.bind_ret, Prog.pure_eq_ret]
  refine ev_out 5 rfl rfl (dY k0_dev10_eq c) rfl rfl rfl (by decide) (by decide) rfl rfl rfl (aM_of (k0_off8_eq c)) ?_
  refine ev_store 6 rfl rfl rfl ?_
  exact run_pure h

theorem part10 (h : iprop(St' xV wV K c 8 8 7 0 1 8 ∗ mid' xV wV c 7 ∗ R) ⊢ Q ⟨⟩) :
    iprop(St' xV wV K c 7 7 6 0 1 8 ∗ mid' xV wV c 6 ∗ R)
      ⊢ run c (ap A0 h0 A1 h1 A3 h3 k0_part10 c w1 w2 w3 (k0_pay2 (xV c 1) (wV c)) (k0_pay4 (xV c 1) (wV c)) (k0_pay5 (xV c 1) (wV c))) Q := by
  rw [k0_part10_eq_skeleton]; unfold ap k0_part10_skel; simp only [Prog.lift, Prog.bind_op, Prog.bind_ret, Prog.pure_eq_ret]
  refine ev_out 6 rfl rfl (dY k0_dev11_eq c) rfl rfl rfl (by decide) (by decide) rfl rfl rfl (aM_of (k0_off9_eq c)) ?_
  refine ev_store 7 rfl rfl rfl ?_
  exact run_pure h

theorem part11 (h : iprop(St' xV wV K c 10 8 8 0 2 8 ∗ R) ⊢ Q ⟨⟩) :
    iprop(St' xV wV K c 8 8 7 0 1 8 ∗ mid' xV wV c 7 ∗ R)
      ⊢ run c (ap A0 h0 A1 h1 A3 h3 k0_part11 c w1 w2 w3 w4) Q := by
  rw [k0_part11_eq_skeleton]; unfold ap k0_part11_skel; simp only [Prog.lift, Prog.bind_op, Prog.bind_ret, Prog.pure_eq_ret]
  refine ev_out 7 rfl rfl (dY k0_dev12_eq c) rfl rfl rfl (by decide) (by decide) rfl rfl rfl (aM_of (k0_off10_eq c)) ?_
  refine ev_y 1 rfl (dY k0_dev13_eq c) rfl rfl (by decide) (eM_of (offE c 1)) (aM_of (offY c 1)) rfl rfl ?_
  exact run_pure h

theorem part18 (h : iprop(St' xV wV K c 18 12 12 2 3 8 ∗ fw' xV wV (.zd 1) c ∗ R) ⊢ Q ⟨⟩) :
    iprop(St' xV wV K c 17 12 12 1 3 8 ∗ R)
      ⊢ run c (ap A0 h0 A1 h1 A3 h3 k0_part18 c w1 w2 w3 w4 w5 w6 w7) Q := by
  rw [k0_part18_eq_skeleton]; unfold ap k0_part18_skel; simp only [Prog.lift, Prog.bind_op, Prog.bind_ret, Prog.pure_eq_ret]
  refine ev_wait (.rcv (.y 1)) rfl rfl trivial (by decide) rfl (by decide) ?_
  refine (sep_mono_right (sep_mono_left (hand_y _ _ c 1))).trans ?_
  refine regroup.trans ?_
  refine ev_fwd (.xd 1) (by decide) rfl (dX k0_dev21_eq c) rfl rfl (by decide) (aM_of (offD c 1)) (aM_of (offD c 1)) ?_
  exact run_pure h

theorem part25 (h : iprop(St' xV wV K c 26 16 16 4 4 8 ∗ fw' xV wV (.zd 2) c ∗ R) ⊢ Q ⟨⟩) :
    iprop(St' xV wV K c 25 16 16 3 4 8 ∗ R)
      ⊢ run c (ap A0 h0 A1 h1 A3 h3 k0_part25 c w1 w2 w3 w4 w5 w6 w7) Q := by
  rw [k0_part25_eq_skeleton]; unfold ap k0_part25_skel; simp only [Prog.lift, Prog.bind_op, Prog.bind_ret, Prog.pure_eq_ret]
  refine ev_wait (.rcv (.y 2)) rfl rfl trivial (by decide) rfl (by decide) ?_
  refine (sep_mono_right (sep_mono_left (hand_y _ _ c 2))).trans ?_
  refine regroup.trans ?_
  refine ev_fwd (.xd 2) (by decide) rfl (dX k0_dev29_eq c) rfl rfl (by decide) (aM_of (offD c 2)) (aM_of (offD c 2)) ?_
  exact run_pure h

theorem part27 (h : iprop(St' xV wV K c 28 16 16 6 4 8 ∗ fw' xV wV (.xd 3) c ∗ fw' xV wV (.zd 3) c ∗ R) ⊢ Q ⟨⟩) :
    iprop(St' xV wV K c 27 16 16 5 4 8 ∗ fw' xV wV (.zt 1) c ∗ R)
      ⊢ run c (ap A0 h0 A1 h1 A3 h3 k0_part27 c w1 w2 w3 w4 w5 w6 w7 w8) Q := by
  rw [k0_part27_eq_skeleton]; unfold ap k0_part27_skel; simp only [Prog.lift, Prog.bind_op, Prog.bind_ret, Prog.pure_eq_ret]
  refine ev_fwd (.zt 1) (by decide) rfl (dZ (f := k0_dev31) (by decide +kernel) c) rfl rfl (by decide) (aM_of (offZ c 1)) (aM_of (offZ c 1)) ?_
  refine ev_wait (.rcv (.y 3)) rfl rfl trivial (by decide) rfl (by decide) ?_
  refine (sep_mono_right (sep_mono_left (hand_y _ _ c 3))).trans ?_
  refine regroup.trans ?_
  exact run_pure h

end Units

section Loads
variable {w1 w2 w3 : BitVec 32}

theorem part7 {Q : (Σ' (_ : FVec F S128x1 .f32) (_ : FVec F S128x1 .f32), FVec F S128x8192 .bf16) → sProp 𝕄}
    (h : iprop(St' xV wV K c 5 5 4 0 1 8 ∗ ins A0 A1 xV wV c f0 f1 ∗ mid' xV wV c 4 ∗ R) ⊢ Q ⟨k0_pay2 (xV c 1) (wV c), k0_pay4 (xV c 1) (wV c), k0_pay5 (xV c 1) (wV c)⟩) :
    iprop(St' xV wV K c 4 4 4 0 0 8 ∗ ins A0 A1 xV wV c f0 f1 ∗ R)
      ⊢ run c (ap A0 h0 A1 h1 A3 h3 k0_part7 c w1 w2 w3) Q := by
  rw [k0_part7_eq_skeleton]; unfold ap k0_part7_skel; simp only [Prog.lift, Prog.bind_op, Prog.bind_ret, Prog.pure_eq_ret]
  refine ev_y 0 rfl (dY k0_dev8_eq c) rfl rfl (by decide) (eM_of (offE c 0)) (aM_of (offY c 0)) rfl rfl ?_
  refine ev_xw 1 ?_
  refine ev_store 4 rfl rfl rfl ?_
  refine swap3.trans ?_
  exact run_pure h

theorem part13 {Q : (Σ' (_ : FVec F S128x1 .f32) (_ : FVec F S128x1 .f32) (_ : FVec F S128x8192 .bf16), BitVec 32) → sProp 𝕄}
    (h : ∀ w, iprop(St' xV wV K c 12 9 8 1 2 8 ∗ ins A0 A1 xV wV c f0 f1 ∗ mid' xV wV c 8 ∗ R) ⊢ Q ⟨k0_pay2 (xV c 2) (wV c), k0_pay4 (xV c 2) (wV c), k0_pay5 (xV c 2) (wV c), w⟩) :
    iprop(St' xV wV K c 11 8 8 1 2 8 ∗ fw' xV wV (.zd 0) c ∗ ins A0 A1 xV wV c f0 f1 ∗ R)
      ⊢ run c (ap A0 h0 A1 h1 A3 h3 k0_part13 c w1 w2 w3) Q := by
  rw [k0_part13_eq_skeleton]; unfold ap k0_part13_skel; simp only [Prog.lift, Prog.bind_op, Prog.bind_ret, Prog.pure_eq_ret]
  refine ev_fwd (.zd 0) (by decide) rfl (dZ (f := k0_dev15) (by decide +kernel) c) rfl rfl (by decide) (aM_of (offD c 0)) (aM_of (offD c 0)) ?_
  refine ev_xw 2 ?_
  refine ev_store 8 rfl rfl rfl ?_
  refine swap3.trans ?_
  exact run_pure (h _)

theorem part20 {Q : (Σ' (_ : FVec F S128x1 .f32) (_ : FVec F S128x1 .f32) (_ : FVec F S128x8192 .bf16), BitVec 32) → sProp 𝕄}
    (h : ∀ w, iprop(St' xV wV K c 20 13 12 3 3 8 ∗ ins A0 A1 xV wV c f0 f1 ∗ mid' xV wV c 12 ∗ R) ⊢ Q ⟨k0_pay2 (xV c 3) (wV c), k0_pay4 (xV c 3) (wV c), k0_pay5 (xV c 3) (wV c), w⟩) :
    iprop(St' xV wV K c 19 12 12 3 3 8 ∗ fw' xV wV (.zt 0) c ∗ ins A0 A1 xV wV c f0 f1 ∗ R)
      ⊢ run c (ap A0 h0 A1 h1 A3 h3 k0_part20 c w1 w2 w3) Q := by
  rw [k0_part20_eq_skeleton]; unfold ap k0_part20_skel; simp only [Prog.lift, Prog.bind_op, Prog.bind_ret, Prog.pure_eq_ret]
  refine ev_fwd (.zt 0) (by decide) rfl (dZ (f := k0_dev23) (by decide +kernel) c) rfl rfl (by decide) (aM_of (offZ c 0)) (aM_of (offZ c 0)) ?_
  refine ev_xw 3 ?_
  refine ev_store 12 rfl rfl rfl ?_
  refine swap3.trans ?_
  exact run_pure (h _)

end Loads

end Cert.KernelIdeal.Talk

end
-- ==== Proof.Bar.lean ====
/-
  The barrier at the head of the talking kernel: a unit to each neighbour, with every place of the own buffers that
  neighbour will write, then a wait for three units, after which every place this device will write is in hand.
-/
module

public import proofs.«01_k».proof.Proof.Parts1

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem bigSep_two {T : Type} {S : Finset T} (Φ Ψ : T → sProp 𝕄) :
    bigSep S (fun t => iprop(Φ t ∗ Ψ t)) = iprop(bigSep S Φ ∗ bigSep S Ψ) := bigSep_sep S Φ Ψ
theorem bigSep_le {T : Type} {S : Finset T} {Φ Ψ : T → sProp 𝕄} (h : ∀ t ∈ S, Φ t ⊢ Ψ t) : bigSep S Φ ⊢ bigSep S Ψ := bigSep_mono h
theorem bigSep_ins {T : Type} [DecidableEq T] {S : Finset T} {t : T} (h : t ∉ S) (Φ : T → sProp 𝕄) :
    bigSep (insert t S) Φ = iprop(Φ t ∗ bigSep S Φ) := bigSep_insert h
theorem bigSep_pers {T : Type} [DecidableEq T] (S : Finset T) (P : sProp 𝕄) [BI.Persistent P] (Φ Ψ : T → sProp 𝕄)
    (h : ∀ t ∈ S, iprop(P ∗ Φ t) ⊢ Ψ t) : iprop(P ∗ bigSep S Φ) ⊢ bigSep S Ψ := by
  induction S using Finset.induction_on with
  | empty => rw [bigSep_empty, bigSep_empty]; iintro ⟨-, -⟩; iempintro
  | insert t S ht ih =>
    rw [bigSep_ins ht, bigSep_ins ht]
    iintro ⟨#HP, H1, H2⟩
    isplitl [H1]
    · iapply (h t (Finset.mem_insert_self _ _)); isplitr; · iexact HP
      iexact H1
    · iapply (ih fun t ht' => h t (Finset.mem_insert_of_mem ht')); isplitr; · iexact HP
      iexact H2

section Def
variable (eV : Dev nD → Fin 16 → FVec F S1x32x8192 .bf16) (sV : Dev nD → Fin 16 → FVec F S1x32x256 .f32)
variable (K : GSem nD τ sig → ℕ) (c : Dev nD)

/-- Every barrier cell's invariant. -/
def bars : sProp 𝕄 := bigSep Finset.univ fun c' : Dev nD => cellInv ER (talkRd eV sV) (K (barCell c')) (barCell c')
instance bars_persistent : BI.Persistent (bars eV sV K) := by unfold bars; infer_instance
theorem bars_inv (c' : Dev nD) : bars eV sV K ⊢ cellInv ER (talkRd eV sV) (K (barCell c')) (barCell c') :=
  bigSep_elim (Finset.mem_univ c')

/-- What the signal in direction `d` takes: the right to it, and the own places the neighbour there writes. -/
def todo (d : Fin 3) : sProp 𝕄 :=
  iprop(dutyTok ER (barCell (peerD d c)) 0 d ∗ reached ER (barCell (peerD d c)) 0
    ∗ bigSep (Finset.univ.filter fun t : Tr => t.dir = d) fun t => dstAny (F := F) t (t.peer c))

/-- What it still owes while the signals in `S` are not given. -/
def owedS (S : Finset (Fin 3)) : CellTallies nD τ sig Unit :=
  owed c Finset.univ + ∑ d ∈ S, tallyAt (barCell (peerD d c)) () 1

/-- What the waits and transfers to come take, beside places to write. -/
def rest0 : sProp 𝕄 :=
  iprop((bigSep Finset.univ fun t : Tr => iprop(dutyTok ER (cell c (.snd t)) 0 0 ∗ dutyTok ER (cell (t.peer c) (.rcv t)) 0 0))
    ∗ bigSep Finset.univ (blockRes (F := F) c)
    ∗ bigSep (cs 0 0 0) (fun x => cred (tallyAt (cell c x) () (amtT x)))
    ∗ bigSep Finset.univ (fun x => atPos ER (cell c x) 0 ∅ 0))

/-- Before the signals in `S`. -/
def Pre (S : Finset (Fin 3)) : sProp 𝕄 :=
  iprop(known eV sV K c ∗ bars eV sV K
    ∗ (∃ W, owes (c : Thread nD τ) (owedS c S) W)
    ∗ bigSep S (todo c)
    ∗ cred (tallyAt (barCell c) () 3)
    ∗ atPos ER (barCell c) 0 ∅ 0
    ∗ rest0 c)
end Def

variable {eV : Dev nD → Fin 16 → FVec F S1x32x8192 .bf16} {sV : Dev nD → Fin 16 → FVec F S1x32x256 .f32}
variable {K : GSem nD τ sig → ℕ} {c : Dev nD}

theorem pay_bar (d : Fin 3) : iprop(known eV sV K c ∗ bigSep (Finset.univ.filter fun t : Tr => t.dir = d) fun t => dstAny (F := F) t (t.peer c))
    ⊢ barPay (peerD d c) d := by
  unfold barPay
  refine bigSep_pers _ _ _ _ fun t ht => ?_
  rw [Tr.peer, Tr.peer, (Finset.mem_filter.mp ht).2, peerD_peerD]
  iintro ⟨#HK, Hd⟩
  isplitl [Hd]; · iexact Hd
  iapply (known_reached eV sV K c (.rcv t)); iexact HK

/-- A SIGNAL. -/
theorem ev_signal (d : Fin 3) {S : Finset (Fin 3)} (hd : d ∉ S) {n : Dev nD} {sm : Sem sig} (hn : n = peerD d c) (hs : sm = barrier0)
    {α : Type} {k : PUnit → Prog (TpuEff nD τ sig (Elt F) Λ₀ .tc) α} {Q : α → sProp 𝕄} {R : sProp 𝕄}
    (h : iprop(Pre eV sV K c S ∗ R) ⊢ run c (k ⟨⟩) Q) :
    iprop(Pre eV sV K c (insert d S) ∗ R) ⊢ run c (.op (.semSignal (n, .tc) sm (1#32 : BitVec 32).toInt) k) Q := by
  subst hn hs
  have hO : owedS c (insert d S) = owedS c S + tallyAt (barCell (peerD d c)) () 1 := by
    unfold owedS; rw [Finset.sum_insert hd]; ac_rfl
  unfold Pre
  rw [hO, bigSep_ins hd]
  iintro ⟨⟨#HK, #HB, ⟨%W, HO⟩, ⟨Hd, Hds⟩, HC, HP, HR⟩, HF⟩
  unfold todo
  icases Hd with ⟨Ht, #Hr, Hd⟩
  iapply (Rounds.wp_signal 𝒱₀ ER (talkRd eV sV) (c : Thread nD τ) none (dst := (peerD d c : Thread nD τ)) (sem := barrier0) (r := 0) (d := d)
      (κ := K (barCell (peerD d c)))
      (by rw [duties_bar]; exact Finset.mem_univ _) (amount_bar eV sV (peerD d c) d) () (owedS c S) rfl)
    $$ [HO Ht Hd]
  · isplitr; · iapply (bars_inv eV sV K (peerD d c)); iexact HB
    isplitl [HO]; · iexact HO
    isplitl [Ht]; · iexact Ht
    isplitl [Hd]
    · rw [payload_bar]
      iapply pay_bar
      isplitr; · iexact HK
      iexact Hd
    · iexact Hr
  iintro HO
  iapply h
  unfold Pre
  isplitr [HF]
  · isplitr; · iexact HK
    isplitr; · iexact HB
    isplitl [HO]; · iexists W; iexact HO
    isplitl [Hds]; · unfold todo; iexact Hds
    isplitl [HC]; · iexact HC
    isplitl [HP]; · iexact HP
    iexact HR
  · iexact HF

theorem fromT_zero : fromT 0 = Finset.univ := by ext; simp [fromT]
theorem fromR_zero : fromR 0 = Finset.univ := by ext; simp [fromR]
theorem fromW_zero : fromW 0 = Finset.univ := by ext; simp [fromW]
theorem uptoW_zero : uptoW 0 = ∅ := by ext; simp [uptoW]
theorem uptoR_zero : uptoR 0 = ∅ := by ext; simp [uptoR]
theorem pool_zero : pool c 0 0 = ∅ := by ext; simp [pool]
theorem kept_zero : kept 8 0 = ∅ := by ext; simp [kept]

theorem all_bar : bigSep Finset.univ (fun d => (barPay c d : sProp 𝕄))
    ⊢ bigSep Finset.univ fun t : Tr => iprop(dstAny (F := F) t c ∗ reached ER (cell (t.peer c) (.rcv t)) 0) := by
  unfold barPay
  have e : (Finset.univ.biUnion fun d : Fin 3 => Finset.univ.filter fun t : Tr => t.dir = d) = Finset.univ := by ext t; simp
  have h := bigSep_biUnion (Finset.univ : Finset (Fin 3)) (fun d => Finset.univ.filter fun t : Tr => t.dir = d)
    (Φ := fun t => (iprop(dstAny (F := F) t c ∗ reached ER (cell (t.peer c) (.rcv t)) 0) : sProp 𝕄))
  rw [e] at h
  exact h

/-- The WAIT for the three units. -/
theorem ev_barrier {sm : Sem sig} (hs : sm = barrier0)
    {α : Type} {k : PUnit → Prog (TpuEff nD τ sig (Elt F) Λ₀ .tc) α} {Q : α → sProp 𝕄} {R : sProp 𝕄}
    (h : iprop(St eV sV K c 0 0 0 0 0 8 ∗ semVal (barCell c) 0 ∗ R) ⊢ run c (k ⟨⟩) Q) :
    iprop(Pre eV sV K c ∅ ∗ R) ⊢ run c (.op (.semWait sm (3#32 : BitVec 32).toInt) k) Q := by
  subst hs
  have hO : owedS c ∅ = owed c Finset.univ := by unfold owedS; rw [Finset.sum_empty, add_zero]
  have hmw : known eV sV K c ⊢ MayWait (c : Thread nD τ) (.reg barrier0) () (owed c Finset.univ) :=
    (known_lev eV sV K c).trans (by unfold levs; exact mayWait (F := F) c (.reg barrier0) Finset.univ fun t _ => by show 1 < _; omega)
  unfold Pre
  rw [hO, bigSep_empty]
  iintro ⟨⟨#HK, #HB, ⟨%W, HO⟩, -, HC, HP, HR⟩, HF⟩
  iapply (Rounds.wp_wait_rest_token 𝒱₀ ER (talkRd eV sV) (c : Thread nD τ) none (κ := K (barCell c))
      (wpE_semWait_eq 𝒱₀ (c : Thread nD τ) none Set.univ) (Set.mem_univ _) () (O := owed c Finset.univ) (W := W) (R := 0) (m := 0) (T := ∅)
      ((Nat.zero_add 3).trans (expect_bar eV sV c).symm)) $$ [HC HO HP]
  · isplitr; · iapply (bars_inv eV sV K c); iexact HB
    isplitl [HC]; · iexact HC
    isplitl [HO]; · iexact HO
    isplitr; · iapply hmw; iexact HK
    iexact HP
  iintro ⟨HO, HP, -, Hpay⟩
  ihave Hp := (Entails.of_eq (rest_bar eV sV c)) $$ Hpay
  ihave Hp := all_bar $$ Hp
  imod (closeC eV sV (K (barCell c)) (barCell c)) $$ [HP] with HV
  · isplitr; · iapply (bars_inv eV sV K c); iexact HB
    iexact HP
  iapply h
  unfold St rest0
  rw [fromT_zero, fromR_zero, fromW_zero, uptoW_zero, uptoR_zero, pool_zero, kept_zero, bigSep_empty, bigSep_empty, bigSep_empty, bigSep_empty]
  icases HR with ⟨HT, HBl, HCr, HAt⟩
  isplitr [HV HF]
  · isplitr; · iexact HK
    isplitl [HO]; · iexists _; iexact HO
    isplitl [HT Hp]
    · rw [show (sendRes (F := F) c) = fun t => iprop(dutyTok ER (cell c (.snd t)) 0 0 ∗ dutyTok ER (cell (t.peer c) (.rcv t)) 0 0
        ∗ dstAny (F := F) t c ∗ reached ER (cell (t.peer c) (.rcv t)) 0) from rfl]
      ihave H := (Entails.of_eq (bigSep_two (F := F) (S := (Finset.univ : Finset Tr))
        (fun t => iprop(dutyTok ER (cell c (.snd t)) 0 0 ∗ dutyTok ER (cell (t.peer c) (.rcv t)) 0 0))
        (fun t => iprop(dstAny (F := F) t c ∗ reached ER (cell (t.peer c) (.rcv t)) 0))).symm) $$ [HT Hp]
      · isplitl [HT]; · iexact HT
        iexact Hp
      iapply (bigSep_le fun t _ => ?_) $$ H
      iintro ⟨⟨H1, H2⟩, H3, H4⟩
      iframe H1 H2 H3 H4
    isplitl [HBl]; · iexact HBl
    isplitl [HCr]; · iexact HCr
    isplitl [HAt]; · iexact HAt
    isplitr; · iempintro
    isplitr; · iempintro
    isplitr; · iempintro
    iempintro
  · iframe HV HF

/-! ## The first two parts -/

variable {A0 : Memref sig .tc .vmem S512x1024 .f32} {h0 : A0.IsWhole} {A1 : Memref sig .tc .vmem S1024x8192 .f32} {h1 : A1.IsWhole}
  {A3 : Memref sig .tc .vmem S512x256 .f32} {h3 : A3.IsWhole}
variable {xV : Dev nD → Fin 4 → FVec F S128x1024 .f32} {wV : Dev nD → FVec F S1024x8192 .f32}
variable {R : sProp (MT nD τ sig Unit (Elt F) ℕ UU ℕ)}
variable {f0 : Buf (Elt F) (A0.view.loc (c : Thread nD τ))} {f1 : Buf (Elt F) (A1.view.loc (c : Thread nD τ))}

/-- A device's place along y, as the body computes it. -/
abbrev yWord (c : Dev nD) : BitVec 32 := Scalar.remsi (Scalar.divsi (Dev.word c) 4#32) 2#32

theorem part1 {Q : (Σ' (d0 : Dev nD) (v2 : BitVec 32) (v5 : BitVec 32) (v8 : BitVec 32) (v9 : BitVec 32) (v12 : BitVec 32) (v13 : BitVec 32) (v14 : BitVec 32) (v18 : Sems sig S_), BitVec 32) → sProp 𝕄}
    (h : ∀ w2 w8 w9 w12 w13 w14 w, iprop(Pre (Talk.eV xV wV) (Talk.sV xV wV) K c {2} ∗ R)
      ⊢ Q ⟨c, w2, yWord c, w8, w9, w12, w13, w14, SemArray.scalar (sig.barrier 0 rfl), w⟩) :
    iprop(Pre (Talk.eV xV wV) (Talk.sV xV wV) K c Finset.univ ∗ R) ⊢ run c (ap A0 h0 A1 h1 A3 h3 k0_part1) Q := by
  rw [k0_part1_eq_skeleton]; unfold ap k0_part1_skel
  simp only [semSignalWord, Prog.lift, Prog.bind_op, Prog.bind_ret, Prog.pure_eq_ret, run, wp_deviceId]
  rw [show (Finset.univ : Finset (Fin 3)) = insert 0 (insert 1 {2}) from rfl]
  refine ev_signal 0 (by decide) (dY k0_dev1_eq c) rfl ?_
  refine ev_signal 1 (by decide) (dX k0_dev2_eq c) rfl ?_
  exact run_pure (h _ _ _ _ _ _ _)

theorem part2 {w1 w2 w3 w4 : BitVec 32} {Q : (Σ' (v43 : FVec F S128x1 .f32) (v48 : FVec F S128x1 .f32) (v49 : FVec F S128x8192 .bf16), BitVec 32) → sProp 𝕄}
    (h : ∀ w, iprop(St' xV wV K c 0 1 0 0 0 8 ∗ mid' xV wV c 0 ∗ ins A0 A1 xV wV c f0 f1 ∗ semVal (barCell c) 0 ∗ R)
      ⊢ Q ⟨k0_pay2 (xV c 0) (wV c), k0_pay4 (xV c 0) (wV c), k0_pay5 (xV c 0) (wV c), w⟩) :
    iprop(Pre (Talk.eV xV wV) (Talk.sV xV wV) K c {2} ∗ ins A0 A1 xV wV c f0 f1 ∗ R)
      ⊢ run c (ap A0 h0 A1 h1 A3 h3 k0_part2 c w1 w2 w3 (SemArray.scalar (sig.barrier 0 rfl)) w4) Q := by
  rw [k0_part2_eq_skeleton]; unfold ap k0_part2_skel
  simp only [semSignalWord, semWaitWord, Prog.lift, Prog.bind_op, Prog.bind_ret, Prog.pure_eq_ret]
  rw [show ({2} : Finset (Fin 3)) = insert 2 ∅ from rfl]
  refine ev_signal 2 (by decide) (dZ (by decide +kernel) c) rfl ?_
  refine ev_barrier rfl ?_
  refine swap3.trans ?_
  refine ev_xw 0 ?_
  refine ev_store 0 rfl rfl rfl ?_
  refine run_pure ?_
  refine BIBase.Entails.trans ?_ (h _)
  iintro ⟨H1, H2, H3, H4, H5⟩
  iframe H1 H2 H3 H4 H5

end Cert.KernelIdeal.Talk

end
-- ==== Proof.Parts2.lean ====
/-
  The second half of the talking kernel's body: the waits, and between them the scaling factors.
-/
module

public import proofs.«01_k».proof.Proof.Parts1

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {A0 : Memref sig .tc .vmem S512x1024 .f32} {h0 : A0.IsWhole} {A1 : Memref sig .tc .vmem S1024x8192 .f32} {h1 : A1.IsWhole}
  {A3 : Memref sig .tc .vmem S512x256 .f32} {h3 : A3.IsWhole}
variable {xV : Dev nD → Fin 4 → FVec F S128x1024 .f32} {wV : Dev nD → FVec F S1024x8192 .f32}
variable {K : GSem nD τ sig → ℕ} {c : Dev nD} {R : sProp (MT nD τ sig Unit (Elt F) ℕ UU ℕ)}
variable {f0 : Buf (Elt F) (A0.view.loc (c : Thread nD τ))} {f1 : Buf (Elt F) (A1.view.loc (c : Thread nD τ))}

/-! ## The factors -/

/-- The first column of the left half and of the right half of the statistics: the rows' maxima and sums. -/
abbrev mRect : Rect S16x32x256 := Rect.unit (s := S16x32x256) ![0, 0, 0] S16x32x1.size (by decide)
abbrev tRect : Rect S16x32x256 := Rect.unit (s := S16x32x256) ![0, 0, 128] S16x32x1.size (by decide)
abbrev fRect : Rect S512x256 := Rect.unit (s := S512x256) ![0, 0] S512x256.size (by decide)

theorem blocks_whole {T : Type} [Fintype T] [DecidableEq T] {ℓ : Loc nD τ sig} (K : T → Finset (Idx ℓ)) (hd : ∀ t t', t ≠ t' → Disjoint (K t) (K t'))
    (hc : ∀ i, ∃ t, i ∈ K t) (q : PosShare TreeShare) (f : Buf (Elt F) ℓ) (P : T → sProp 𝕄) (hP : ∀ t, P t = (ℓ ↦[K t]{q} f)) :
    bigSep Finset.univ P = (ℓ ↦[Finset.univ]{q} f) := by
  rw [show (Finset.univ : Finset (Idx ℓ)) = Finset.univ.biUnion K from by
      ext i; simp only [Finset.mem_biUnion, Finset.mem_univ, true_and, true_iff]; exact hc i,
    pointsTo_biUnion Finset.univ K fun t _ t' _ h => hd t t' h]
  exact congrArg (bigSep Finset.univ) (funext hP)

theorem sRect_disj (r r' : Fin 16) (h : r ≠ r') : Disjoint (sRect r).set (sRect r').set := by
  rw [Finset.disjoint_left]
  intro i hi hi'
  rw [mem_sRect] at hi hi'
  exact h (Fin.ext (hi.symm.trans hi'))
theorem sRect_cover (i : S16x32x256.Idx) : ∃ r, i ∈ (sRect r).set := ⟨i 0, (mem_sRect _ _).mpr rfl⟩

/-- A whole buffer of statistics is its sixteen blocks. -/
theorem sWhole (c : Dev nD) (q : PosShare TreeShare) (f : S16x32x256.Idx → Elt F .f32) :
    (bigSep Finset.univ fun r => sPt c r q f : sProp 𝕄) = (sW.view.loc (c : Thread nD τ) ↦[Finset.univ]{q} f) :=
  blocks_whole (ℓ := sW.view.loc (c : Thread nD τ)) (fun r => (sRect r).set) sRect_disj sRect_cover q f _ fun r => congrArg (fun S => (sW.view.loc (c : Thread nD τ) ↦[S]{q} f : sProp 𝕄)) (sM_set r)
theorem rWhole (c : Dev nD) (q : PosShare TreeShare) (f : S16x32x256.Idx → Elt F .f32) :
    (bigSep Finset.univ fun r => rPt c r q f : sProp 𝕄) = (rW.view.loc (c : Thread nD τ) ↦[Finset.univ]{q} f) :=
  blocks_whole (ℓ := rW.view.loc (c : Thread nD τ)) (fun r => (sRect r).set) sRect_disj sRect_cover q f _ fun r => congrArg (fun S => (rW.view.loc (c : Thread nD τ) ↦[S]{q} f : sProp 𝕄)) (rM_set r)

/-- Received statistics, all of them. -/
abbrev rAll (xV : Dev nD → Fin 4 → FVec F S128x1024 .f32) (wV : Dev nD → FVec F S1024x8192 .f32) (c : Dev nD) : sProp 𝕄 :=
  rW.view.loc (c : Thread nD τ) ↦[Finset.univ]{fS} sB (sV xV wV) (yp c)

/-- Once every block of statistics has come, they are taken out together. -/
theorem take_r (i m n ky : ℕ) : St' xV wV K c i m n 24 ky 8 ⊢ iprop(St' xV wV K c i m n 24 ky 24 ∗ rAll xV wV c) := by
  have e : (bigSep (kept 8 24) (pay (eV xV wV) (sV xV wV) c) : sProp 𝕄) = rAll xV wV c := by
    rw [show kept 8 24 = Finset.univ.map ⟨fun r : Fin 16 => TC.rcv (.st r), fun r r' h => by injection h with h; injection h⟩ from by decide +kernel,
      bigSep_map, rAll, ← rWhole]
    refine congrArg (bigSep Finset.univ) (funext fun r => ?_)
    show rPt (yp (yp c)) r fS (sB (sV xV wV) (yp c)) = _
    rw [yp_yp]
  have e2 : (kept 24 24) = ∅ := by decide +kernel
  unfold St' St
  rw [e, e2, bigSep_empty]
  iintro ⟨HK, HO, Hss, HB, HC, HP, HV, He, HS, HG⟩
  isplitr [HG]
  · iframe HK HO Hss HB HC HP HV He HS
    iempintro
  · iexact HG

/-- Reading the own statistics while half of each block is away. -/
theorem ev_lds (r : Rect S16x32x256) {hl : sW.view.LoadsAt r} {α : Type} {i m j ky lo : ℕ}
    {k : (r.toLoadRect.shape.Idx → Elt F .f32) → Prog (TpuEff nD τ sig (Elt F) Λ₀ .tc) α} {Q : α → sProp 𝕄}
    (h : iprop(St' xV wV K c i m 16 j ky lo ∗ R) ⊢ run c (k ((sW.access r).read (Elt F) (sB (sV xV wV) c))) Q) :
    iprop(St' xV wV K c i m 16 j ky lo ∗ R) ⊢ run c (.op (.load sW r.toLoadRect hl) k) Q := by
  unfold St' St at h ⊢
  rw [show uptoR 16 = Finset.univ from by decide, sWhole] at h ⊢
  iintro ⟨⟨HK, HO, Hss, HB, HC, HP, HV, He, HS, HG⟩, HR⟩
  iapply (wp_load_rect 𝒱₀ (c : Thread nD τ) none Set.univ (m := sW) (r := r) (S := Finset.univ) (Finset.subset_univ _)) $$ HS
  iintro HS
  iapply h
  iframe HK HO Hss HB HC HP HV He HS HG HR

/-- The scaling factors of device `c`'s two column halves, every row's. -/
def fac (xV : Dev nD → Fin 4 → FVec F S128x1024 .f32) (wV : Dev nD → FVec F S1024x8192 .f32) (c : Dev nD) : FVec F S512x256 .f32 :=
  k0_pay53 (Scalar.remsi (Scalar.divsi (Dev.word c) 4#32) 2#32)
    ((sW.access mRect).read (Elt F) (sB (sV xV wV) c)) ((sW.access tRect).read (Elt F) (sB (sV xV wV) c))
    ((rW.access mRect).read (Elt F) (sB (sV xV wV) (yp c))) ((rW.access tRect).read (Elt F) (sB (sV xV wV) (yp c)))

theorem read_fRect (A3 : Memref sig .tc .vmem S512x256 .f32) (f : A3.view.ty.Contents (Elt F)) (w : FVec F S512x256 .f32) :
    A3.view.read (Elt F) ((A3.access fRect).write (Elt F) f w Finset.univ) = w := by
  funext x
  have e : fRect.emb x = x := funext fun a => match a with
    | ⟨0, _⟩ => Fin.ext (by show 0 + 1 * (x 0).val = (x 0).val; omega)
    | ⟨1, _⟩ => Fin.ext (by show 0 + 1 * (x 1).val = (x 1).val; omega)
  have h := View.read_write_of_mem (v := A3.access fRect) (Val := Elt F) f w (Finset.mem_univ x)
  have h' : (A3.access fRect).read (Elt F) ((A3.access fRect).write (Elt F) f w Finset.univ) x
      = A3.view.read (Elt F) ((A3.access fRect).write (Elt F) f w Finset.univ) (fRect.emb x) := rfl
  rw [e] at h'
  exact h'.symm.trans h

theorem ev_ldr (r : Rect S16x32x256) {hl : rW.view.LoadsAt r} {α : Type} {P : sProp 𝕄}
    {k : (r.toLoadRect.shape.Idx → Elt F .f32) → Prog (TpuEff nD τ sig (Elt F) Λ₀ .tc) α} {Q : α → sProp 𝕄}
    (h : iprop(P ∗ rAll xV wV c ∗ R) ⊢ run c (k ((rW.access r).read (Elt F) (sB (sV xV wV) (yp c)))) Q) :
    iprop(P ∗ rAll xV wV c ∗ R) ⊢ run c (.op (.load rW r.toLoadRect hl) k) Q := by
  iintro ⟨HP, Hr, HR⟩
  iapply (wp_load_rect 𝒱₀ (c : Thread nD τ) none Set.univ (m := rW) (r := r) (S := Finset.univ) (Finset.subset_univ _)) $$ Hr
  iintro Hr
  iapply h
  iframe HP Hr HR

theorem ev_st3 (w : FVec F S512x256 .f32) {hl : A3.view.LoadsAt fRect} {hx : (A3.access fRect).Stores Finset.univ}
    {hm : (Finset.univ : Finset fRect.shape.Idx) = Finset.univ ∨ ∀ a, fRect.stride a = 1} {α : Type} {P : sProp 𝕄}
    {k : PUnit → Prog (TpuEff nD τ sig (Elt F) Λ₀ .tc) α} {Q : α → sProp 𝕄}
    (h : iprop(P ∗ owns (c : Thread nD τ) A3 fS w ∗ R) ⊢ run c (k ⟨⟩) Q) :
    iprop(P ∗ (∃ X, owns (c : Thread nD τ) A3 fS X) ∗ R)
      ⊢ run c (.op (.load A3 fRect.toLoadRect hl) fun _ => .op (.store A3 fRect w Finset.univ hx hm) k) Q := by
  unfold owns at h ⊢
  iintro ⟨HP, ⟨%X, %f, -, H3⟩, HR⟩
  iapply (wp_load_rect 𝒱₀ (c : Thread nD τ) none Set.univ (m := A3) (r := fRect) (S := A3.view.set) (f := f) (View.set_slice_subset _ _)) $$ H3
  iintro H3
  iapply (wp_store 𝒱₀ (c : Thread nD τ) none Set.univ (m := A3) (r := fRect) (S := A3.view.set) (f := f)
    (by rw [View.setOn_univ]; exact View.set_slice_subset _ _)) $$ H3
  iintro H3
  iapply h
  iframe HP HR
  iexists _
  isplitr [H3]
  · ipureintro; exact read_fRect A3 f w
  · iexact H3

theorem part36 {Q : Vec F S16x32x1 .f32 → sProp 𝕄} {w1 w2 w3 : BitVec 32}
    (h : iprop(St' xV wV K c 32 16 16 24 4 8 ∗ R) ⊢ Q ((sW.access mRect).read (Elt F) (sB (sV xV wV) c))) :
    iprop(St' xV wV K c 32 16 16 21 4 8 ∗ R) ⊢ run c (ap A0 h0 A1 h1 A3 h3 k0_part36 w1 w2 w3) Q := by
  rw [k0_part36_eq_skeleton]; unfold ap k0_part36_skel; simp only [Prog.lift, Prog.bind_op, Prog.bind_ret, Prog.pure_eq_ret]
  refine ev_keep (.rcv (.st 13)) rfl rfl (by decide) (by decide) rfl (by decide) ?_
  refine ev_keep (.rcv (.st 14)) rfl rfl (by decide) (by decide) rfl (by decide) ?_
  refine ev_keep (.rcv (.st 15)) rfl rfl (by decide) (by decide) rfl (by decide) ?_
  refine ev_lds mRect ?_
  exact run_pure h

theorem part37 {Q : PUnit → sProp 𝕄}
    (h : iprop(St' xV wV K c 32 16 16 25 4 24 ∗ rAll xV wV c ∗ owns (c : Thread nD τ) A3 fS (fac xV wV c) ∗ R) ⊢ Q ⟨⟩) :
    iprop(St' xV wV K c 32 16 16 24 4 8 ∗ (∃ X, owns (c : Thread nD τ) A3 fS X) ∗ R)
      ⊢ run c (ap A0 h0 A1 h1 A3 h3 k0_part37 (Scalar.remsi (Scalar.divsi (Dev.word c) 4#32) 2#32) ((sW.access mRect).read (Elt F) (sB (sV xV wV) c))) Q := by
  rw [k0_part37_eq_skeleton]; unfold ap k0_part37_skel; simp only [Prog.lift, Prog.bind_op, Prog.bind_ret, Prog.pure_eq_ret]
  refine (sep_mono_left (take_r 32 16 16 4)).trans ?_
  refine sep_assoc.1.trans ?_
  refine ev_lds tRect ?_
  refine ev_ldr mRect ?_
  refine ev_ldr tRect ?_
  refine swap3.trans ?_
  refine ev_st3 (fac xV wV c) ?_
  refine swap3.trans ?_
  refine ev_keep (.snd (.st 0)) rfl rfl (by decide) (by decide) rfl (by decide) ?_
  exact run_pure h

section Keeps
variable {Q : PUnit → sProp (MT nD τ sig Unit (Elt F) ℕ UU ℕ)} {w1 w2 w3 w4 w5 : BitVec 32}

theorem part30 (h : iprop(St' xV wV K c 32 16 16 9 4 8 ∗ R) ⊢ Q ⟨⟩) :
    iprop(St' xV wV K c 31 16 16 8 4 8 ∗ fw' xV wV (.xt 1) c ∗ R) ⊢ run c (ap A0 h0 A1 h1 A3 h3 k0_part30 c w1 w2 w3 w4 w5) Q := by
  rw [k0_part30_eq_skeleton]; unfold ap k0_part30_skel; simp only [Prog.lift, Prog.bind_op, Prog.bind_ret, Prog.pure_eq_ret]
  refine ev_fwd (.xt 1) (by decide) rfl (dX k0_dev35_eq c) rfl rfl (by decide) (aM_of (offX c 1)) (aM_of (offX c 1)) ?_
  refine ev_keep (.rcv (.st 0)) rfl rfl (by decide) (by decide) rfl (by decide) ?_
  exact run_pure h

theorem part32 (h : iprop(St' xV wV K c 32 16 16 14 4 8 ∗ R) ⊢ Q ⟨⟩) :
    iprop(St' xV wV K c 32 16 16 12 4 8 ∗ R) ⊢ run c (ap A0 h0 A1 h1 A3 h3 k0_part32 w1 w2 w3 w4 w5) Q := by
  rw [k0_part32_eq_skeleton]; unfold ap k0_part32_skel; simp only [Prog.lift, Prog.bind_op, Prog.bind_ret, Prog.pure_eq_ret]
  refine ev_keep (.rcv (.st 4)) rfl rfl (by decide) (by decide) rfl (by decide) ?_
  refine ev_keep (.rcv (.st 5)) rfl rfl (by decide) (by decide) rfl (by decide) ?_
  exact run_pure h

theorem part33 (h : iprop(St' xV wV K c 32 16 16 17 4 8 ∗ R) ⊢ Q ⟨⟩) :
    iprop(St' xV wV K c 32 16 16 14 4 8 ∗ R) ⊢ run c (ap A0 h0 A1 h1 A3 h3 k0_part33 w1 w2 w3) Q := by
  rw [k0_part33_eq_skeleton]; unfold ap k0_part33_skel; simp only [Prog.lift, Prog.bind_op, Prog.bind_ret, Prog.pure_eq_ret]
  refine ev_keep (.rcv (.st 6)) rfl rfl (by decide) (by decide) rfl (by decide) ?_
  refine ev_keep (.rcv (.st 7)) rfl rfl (by decide) (by decide) rfl (by decide) ?_
  refine ev_keep (.rcv (.st 8)) rfl rfl (by decide) (by decide) rfl (by decide) ?_
  exact run_pure h

theorem part35 (h : iprop(St' xV wV K c 32 16 16 21 4 8 ∗ R) ⊢ Q ⟨⟩) :
    iprop(St' xV wV K c 32 16 16 19 4 8 ∗ R) ⊢ run c (ap A0 h0 A1 h1 A3 h3 k0_part35 w1 w2 w3 w4 w5) Q := by
  rw [k0_part35_eq_skeleton]; unfold ap k0_part35_skel; simp only [Prog.lift, Prog.bind_op, Prog.bind_ret, Prog.pure_eq_ret]
  refine ev_keep (.rcv (.st 11)) rfl rfl (by decide) (by decide) rfl (by decide) ?_
  refine ev_keep (.rcv (.st 12)) rfl rfl (by decide) (by decide) rfl (by decide) ?_
  exact run_pure h

theorem part38 (h : iprop(St' xV wV K c 32 16 16 30 4 24 ∗ R) ⊢ Q ⟨⟩) :
    iprop(St' xV wV K c 32 16 16 25 4 24 ∗ R) ⊢ run c (ap A0 h0 A1 h1 A3 h3 k0_part38 c) Q := by
  rw [k0_part38_eq_skeleton]; unfold ap k0_part38_skel; simp only [Prog.lift, Prog.bind_op, Prog.bind_ret, Prog.pure_eq_ret]
  refine ev_keep (.cp 0) rfl rfl (by decide) (by decide) rfl (by decide) ?_
  refine ev_keep (.snd (.st 1)) rfl rfl (by decide) (by decide) rfl (by decide) ?_
  refine ev_keep (.cp 1) rfl rfl (by decide) (by decide) rfl (by decide) ?_
  refine ev_keep (.snd (.st 2)) rfl rfl (by decide) (by decide) rfl (by decide) ?_
  refine ev_keep (.cp 2) rfl rfl (by decide) (by decide) rfl (by decide) ?_
  exact run_pure h

theorem part39 (h : iprop(St' xV wV K c 32 16 16 34 4 24 ∗ R) ⊢ Q ⟨⟩) :
    iprop(St' xV wV K c 32 16 16 30 4 24 ∗ R) ⊢ run c (ap A0 h0 A1 h1 A3 h3 k0_part39 c) Q := by
  rw [k0_part39_eq_skeleton]; unfold ap k0_part39_skel; simp only [Prog.lift, Prog.bind_op, Prog.bind_ret, Prog.pure_eq_ret]
  refine ev_keep (.snd (.st 3)) rfl rfl (by decide) (by decide) rfl (by decide) ?_
  refine ev_keep (.cp 3) rfl rfl (by decide) (by decide) rfl (by decide) ?_
  refine ev_keep (.snd (.st 4)) rfl rfl (by decide) (by decide) rfl (by decide) ?_
  refine ev_keep (.cp 4) rfl rfl (by decide) (by decide) rfl (by decide) ?_
  exact run_pure h

theorem part40 (h : iprop(St' xV wV K c 32 16 16 38 4 24 ∗ R) ⊢ Q ⟨⟩) :
    iprop(St' xV wV K c 32 16 16 34 4 24 ∗ R) ⊢ run c (ap A0 h0 A1 h1 A3 h3 k0_part40 c) Q := by
  rw [k0_part40_eq_skeleton]; unfold ap k0_part40_skel; simp only [Prog.lift, Prog.bind_op, Prog.bind_ret, Prog.pure_eq_ret]
  refine ev_keep (.snd (.st 5)) rfl rfl (by decide) (by decide) rfl (by decide) ?_
  refine ev_keep (.cp 5) rfl rfl (by decide) (by decide) rfl (by decide) ?_
  refine ev_keep (.snd (.st 6)) rfl rfl (by decide) (by decide) rfl (by decide) ?_
  refine ev_keep (.cp 6) rfl rfl (by decide) (by decide) rfl (by decide) ?_
  exact run_pure h

theorem part41 (h : iprop(St' xV wV K c 32 16 16 43 4 24 ∗ R) ⊢ Q ⟨⟩) :
    iprop(St' xV wV K c 32 16 16 38 4 24 ∗ R) ⊢ run c (ap A0 h0 A1 h1 A3 h3 k0_part41 c) Q := by
  rw [k0_part41_eq_skeleton]; unfold ap k0_part41_skel; simp only [Prog.lift, Prog.bind_op, Prog.bind_ret, Prog.pure_eq_ret]
  refine ev_keep (.snd (.st 7)) rfl rfl (by decide) (by decide) rfl (by decide) ?_
  refine ev_keep (.cp 7) rfl rfl (by decide) (by decide) rfl (by decide) ?_
  refine ev_keep (.snd (.st 8)) rfl rfl (by decide) (by decide) rfl (by decide) ?_
  refine ev_keep (.cp 8) rfl rfl (by decide) (by decide) rfl (by decide) ?_
  refine ev_keep (.snd (.st 9)) rfl rfl (by decide) (by decide) rfl (by decide) ?_
  exact run_pure h

theorem part42 (h : iprop(St' xV wV K c 32 16 16 47 4 24 ∗ R) ⊢ Q ⟨⟩) :
    iprop(St' xV wV K c 32 16 16 43 4 24 ∗ R) ⊢ run c (ap A0 h0 A1 h1 A3 h3 k0_part42 c) Q := by
  rw [k0_part42_eq_skeleton]; unfold ap k0_part42_skel; simp only [Prog.lift, Prog.bind_op, Prog.bind_ret, Prog.pure_eq_ret]
  refine ev_keep (.cp 9) rfl rfl (by decide) (by decide) rfl (by decide) ?_
  refine ev_keep (.snd (.st 10)) rfl rfl (by decide) (by decide) rfl (by decide) ?_
  refine ev_keep (.cp 10) rfl rfl (by decide) (by decide) rfl (by decide) ?_
  refine ev_keep (.snd (.st 11)) rfl rfl (by decide) (by decide) rfl (by decide) ?_
  exact run_pure h

theorem part43 (h : iprop(St' xV wV K c 32 16 16 52 4 24 ∗ R) ⊢ Q ⟨⟩) :
    iprop(St' xV wV K c 32 16 16 47 4 24 ∗ R) ⊢ run c (ap A0 h0 A1 h1 A3 h3 k0_part43 c) Q := by
  rw [k0_part43_eq_skeleton]; unfold ap k0_part43_skel; simp only [Prog.lift, Prog.bind_op, Prog.bind_ret, Prog.pure_eq_ret]
  refine ev_keep (.cp 11) rfl rfl (by decide) (by decide) rfl (by decide) ?_
  refine ev_keep (.snd (.st 12)) rfl rfl (by decide) (by decide) rfl (by decide) ?_
  refine ev_keep (.cp 12) rfl rfl (by decide) (by decide) rfl (by decide) ?_
  refine ev_keep (.snd (.st 13)) rfl rfl (by decide) (by decide) rfl (by decide) ?_
  refine ev_keep (.cp 13) rfl rfl (by decide) (by decide) rfl (by decide) ?_
  exact run_pure h

theorem part44 (h : iprop(St' xV wV K c 32 16 16 56 4 24 ∗ R) ⊢ Q ⟨⟩) :
    iprop(St' xV wV K c 32 16 16 52 4 24 ∗ R) ⊢ run c (ap A0 h0 A1 h1 A3 h3 k0_part44 c w1 w2) Q := by
  rw [k0_part44_eq_skeleton]; unfold ap k0_part44_skel; simp only [Prog.lift, Prog.bind_op, Prog.bind_ret, Prog.pure_eq_ret]
  refine ev_keep (.snd (.st 14)) rfl rfl (by decide) (by decide) rfl (by decide) ?_
  refine ev_keep (.cp 14) rfl rfl (by decide) (by decide) rfl (by decide) ?_
  refine ev_keep (.snd (.st 15)) rfl rfl (by decide) (by decide) rfl (by decide) ?_
  refine ev_keep (.cp 15) rfl rfl (by decide) (by decide) rfl (by decide) ?_
  exact run_pure h

theorem part46 (h : iprop(St' xV wV K c 32 16 16 64 4 24 ∗ R) ⊢ Q ⟨⟩) :
    iprop(St' xV wV K c 32 16 16 60 4 24 ∗ R) ⊢ run c (ap A0 h0 A1 h1 A3 h3 k0_part46 c w1 w2 w3 w4) Q := by
  rw [k0_part46_eq_skeleton]; unfold ap k0_part46_skel; simp only [Prog.lift, Prog.bind_op, Prog.bind_ret, Prog.pure_eq_ret]
  refine ev_keep (.snd (.xd 1)) rfl rfl (by decide) (by decide) rfl (by decide) ?_
  refine ev_keep (.snd (.zd 1)) rfl rfl (by decide) (by decide) rfl (by decide) ?_
  refine ev_keep (.snd (.y 2)) rfl rfl (by decide) (by decide) rfl (by decide) ?_
  refine ev_keep (.snd (.xd 2)) rfl rfl (by decide) (by decide) rfl (by decide) ?_
  exact run_pure h

theorem part47 (h : iprop(St' xV wV K c 32 16 16 67 4 24 ∗ R) ⊢ Q ⟨⟩) :
    iprop(St' xV wV K c 32 16 16 64 4 24 ∗ R) ⊢ run c (ap A0 h0 A1 h1 A3 h3 k0_part47 c w1 w2) Q := by
  rw [k0_part47_eq_skeleton]; unfold ap k0_part47_skel; simp only [Prog.lift, Prog.bind_op, Prog.bind_ret, Prog.pure_eq_ret]
  refine ev_keep (.snd (.zd 2)) rfl rfl (by decide) (by decide) rfl (by decide) ?_
  refine ev_keep (.snd (.y 3)) rfl rfl (by decide) (by decide) rfl (by decide) ?_
  refine ev_keep (.snd (.xd 3)) rfl rfl (by decide) (by decide) rfl (by decide) ?_
  exact run_pure h

theorem part48 (h : iprop(St' xV wV K c 32 16 16 70 4 24 ∗ R) ⊢ Q ⟨⟩) :
    iprop(St' xV wV K c 32 16 16 67 4 24 ∗ R) ⊢ run c (ap A0 h0 A1 h1 A3 h3 k0_part48 c w1 w2 w3 w4 w5) Q := by
  rw [k0_part48_eq_skeleton]; unfold ap k0_part48_skel; simp only [Prog.lift, Prog.bind_op, Prog.bind_ret, Prog.pure_eq_ret]
  refine ev_keep (.snd (.zd 3)) rfl rfl (by decide) (by decide) rfl (by decide) ?_
  refine ev_keep (.rcv (.xd 2)) rfl rfl (by decide) (by decide) rfl (by decide) ?_
  refine ev_keep (.rcv (.xd 3)) rfl rfl (by decide) (by decide) rfl (by decide) ?_
  exact run_pure h

theorem part50 (h : iprop(St' xV wV K c 32 16 16 76 4 24 ∗ R) ⊢ Q ⟨⟩) :
    iprop(St' xV wV K c 32 16 16 73 4 24 ∗ R) ⊢ run c (ap A0 h0 A1 h1 A3 h3 k0_part50 c w1 w2 w3 w4 w5) Q := by
  rw [k0_part50_eq_skeleton]; unfold ap k0_part50_skel; simp only [Prog.lift, Prog.bind_op, Prog.bind_ret, Prog.pure_eq_ret]
  refine ev_keep (.rcv (.zt 0)) rfl rfl (by decide) (by decide) rfl (by decide) ?_
  refine ev_keep (.snd (.zt 1)) rfl rfl (by decide) (by decide) rfl (by decide) ?_
  refine ev_keep (.rcv (.zt 1)) rfl rfl (by decide) (by decide) rfl (by decide) ?_
  exact run_pure h

end Keeps

section KeepWords
variable {w1 w2 w3 w4 w5 : BitVec 32}

theorem part49 {Q : BitVec 32 → sProp 𝕄} (h : ∀ w, iprop(St' xV wV K c 32 16 16 73 4 24 ∗ R) ⊢ Q w) :
    iprop(St' xV wV K c 32 16 16 70 4 24 ∗ R) ⊢ run c (ap A0 h0 A1 h1 A3 h3 k0_part49 c w1 w2 w3 w4) Q := by
  rw [k0_part49_eq_skeleton]; unfold ap k0_part49_skel; simp only [Prog.lift, Prog.bind_op, Prog.bind_ret, Prog.pure_eq_ret]
  refine ev_keep (.rcv (.zd 0)) rfl rfl (by decide) (by decide) rfl (by decide) ?_
  refine ev_keep (.rcv (.zd 1)) rfl rfl (by decide) (by decide) rfl (by decide) ?_
  refine ev_keep (.snd (.zt 0)) rfl rfl (by decide) (by decide) rfl (by decide) ?_
  exact run_pure (h _)

theorem part31 {Q : (Σ' (_ : BitVec 32), BitVec 32) → sProp 𝕄} (h : ∀ w w', iprop(St' xV wV K c 32 16 16 12 4 8 ∗ R) ⊢ Q ⟨w, w'⟩) :
    iprop(St' xV wV K c 32 16 16 9 4 8 ∗ R) ⊢ run c (ap A0 h0 A1 h1 A3 h3 k0_part31 w1 w2 w3) Q := by
  rw [k0_part31_eq_skeleton]; unfold ap k0_part31_skel; simp only [Prog.lift, Prog.bind_op, Prog.bind_ret, Prog.pure_eq_ret]
  refine ev_keep (.rcv (.st 1)) rfl rfl (by decide) (by decide) rfl (by decide) ?_
  refine ev_keep (.rcv (.st 2)) rfl rfl (by decide) (by decide) rfl (by decide) ?_
  refine ev_keep (.rcv (.st 3)) rfl rfl (by decide) (by decide) rfl (by decide) ?_
  exact run_pure (h _ _)

theorem part34 {Q : (Σ' (_ : BitVec 32), BitVec 32) → sProp 𝕄} (h : ∀ w w', iprop(St' xV wV K c 32 16 16 19 4 8 ∗ R) ⊢ Q ⟨w, w'⟩) :
    iprop(St' xV wV K c 32 16 16 17 4 8 ∗ R) ⊢ run c (ap A0 h0 A1 h1 A3 h3 k0_part34 w1 w2 w3) Q := by
  rw [k0_part34_eq_skeleton]; unfold ap k0_part34_skel; simp only [Prog.lift, Prog.bind_op, Prog.bind_ret, Prog.pure_eq_ret]
  refine ev_keep (.rcv (.st 9)) rfl rfl (by decide) (by decide) rfl (by decide) ?_
  refine ev_keep (.rcv (.st 10)) rfl rfl (by decide) (by decide) rfl (by decide) ?_
  exact run_pure (h _ _)

theorem part45 {Q : (Σ' (_ : BitVec 32), BitVec 32) → sProp 𝕄} (h : ∀ w w', iprop(St' xV wV K c 32 16 16 60 4 24 ∗ R) ⊢ Q ⟨w, w'⟩) :
    iprop(St' xV wV K c 32 16 16 56 4 24 ∗ R) ⊢ run c (ap A0 h0 A1 h1 A3 h3 k0_part45 c w1 w2) Q := by
  rw [k0_part45_eq_skeleton]; unfold ap k0_part45_skel; simp only [Prog.lift, Prog.bind_op, Prog.bind_ret, Prog.pure_eq_ret]
  refine ev_keep (.snd (.y 0)) rfl rfl (by decide) (by decide) rfl (by decide) ?_
  refine ev_keep (.snd (.xd 0)) rfl rfl (by decide) (by decide) rfl (by decide) ?_
  refine ev_keep (.snd (.zd 0)) rfl rfl (by decide) (by decide) rfl (by decide) ?_
  refine ev_keep (.snd (.y 1)) rfl rfl (by decide) (by decide) rfl (by decide) ?_
  exact run_pure (h _ _)

end KeepWords

end Cert.KernelIdeal.Talk

end
-- ==== Proof.Body.lean ====
/-
  The talking kernel's body as one run: its parts in order, from the barrier to the last wait.
-/
module

public import proofs.«01_k».proof.Proof.Bar
public import proofs.«01_k».proof.Proof.Parts2

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem run_bind {c : Dev nD} {α β : Type} {p : Prog (TpuEff nD τ sig (Elt F) Λ₀ .tc) α} {k : α → Prog (TpuEff nD τ sig (Elt F) Λ₀ .tc) β}
    {Q : β → sProp 𝕄} {P : sProp 𝕄} (h : P ⊢ run c p (fun a => run c (k a) Q)) : P ⊢ run c (p >>= k) Q :=
  h.trans (Entails.of_eq (wp_bind _ _ _ p k Q).symm)

variable {A0 : Memref sig .tc .vmem S512x1024 .f32} {h0 : A0.IsWhole} {A1 : Memref sig .tc .vmem S1024x8192 .f32} {h1 : A1.IsWhole}
  {A3 : Memref sig .tc .vmem S512x256 .f32} {h3 : A3.IsWhole}
variable {xV : Dev nD → Fin 4 → FVec F S128x1024 .f32} {wV : Dev nD → FVec F S1024x8192 .f32}
variable {K : GSem nD τ sig → ℕ} {c : Dev nD} {R : sProp (MT nD τ sig Unit (Elt F) ℕ UU ℕ)}
variable {f0 : Buf (Elt F) (A0.view.loc (c : Thread nD τ))} {f1 : Buf (Elt F) (A1.view.loc (c : Thread nD τ))}

/-- What the body leaves. -/
def Done (A0 : Memref sig .tc .vmem S512x1024 .f32) (A1 : Memref sig .tc .vmem S1024x8192 .f32) (A3 : Memref sig .tc .vmem S512x256 .f32)
    (xV : Dev nD → Fin 4 → FVec F S128x1024 .f32) (wV : Dev nD → FVec F S1024x8192 .f32) (K : GSem nD τ sig → ℕ) (c : Dev nD)
    (f0 : Buf (Elt F) (A0.view.loc (c : Thread nD τ))) (f1 : Buf (Elt F) (A1.view.loc (c : Thread nD τ))) : sProp 𝕄 :=
  iprop(St' xV wV K c 32 16 16 80 4 24 ∗ rAll xV wV c ∗ owns (c : Thread nD τ) A3 fS (fac xV wV c) ∗ ins A0 A1 xV wV c f0 f1 ∗ semVal (barCell c) 0)

theorem part51 {Q : (Σ' (d0 : Dev nD) (v2 : BitVec 32) (v5 : BitVec 32) (v8 : BitVec 32) (v9 : BitVec 32) (v14 : BitVec 32), BitVec 32) → sProp 𝕄}
    (h : ∀ w2 w5 w8 w9 w14 w, iprop(St' xV wV K c 32 16 16 77 4 24 ∗ rAll xV wV c ∗ owns (c : Thread nD τ) A3 fS (fac xV wV c)
      ∗ ins A0 A1 xV wV c f0 f1 ∗ semVal (barCell c) 0 ∗ R) ⊢ Q ⟨c, w2, w5, w8, w9, w14, w⟩) :
    iprop(Pre (eV xV wV) (sV xV wV) K c Finset.univ ∗ ins A0 A1 xV wV c f0 f1 ∗ (∃ X, owns (c : Thread nD τ) A3 fS X) ∗ R)
      ⊢ run c (ap A0 h0 A1 h1 A3 h3 k0_part51) Q := by
  rw [k0_part51_eq_skeleton]; unfold ap k0_part51_skel
  refine run_bind (part1 fun w2 w8 w9 w12 w13 w14 w => ?_)
  refine run_bind (part2 fun _ => ?_)
  refine run_bind (part3 fun _ => ?_)
  refine run_bind (part4 fun _ => ?_)
  refine run_bind (part5 fun _ => ?_)
  refine run_bind (part6 ?_)
  refine run_bind (part7 ?_)
  refine swap3.trans ?_
  refine run_bind (part8 ?_)
  refine run_bind (part9 ?_)
  refine run_bind (part10 ?_)
  refine run_bind (part11 ?_)
  refine run_bind (part12 fun _ => ?_)
  refine run_bind (part13 fun _ => ?_)
  refine swap3.trans ?_
  refine run_bind (part14 fun _ => ?_)
  refine run_bind (part15 fun _ => ?_)
  refine run_bind (part16 fun _ => ?_)
  refine run_bind (part17 fun _ => ?_)
  refine run_bind (part18 ?_)
  refine run_bind (part19 fun _ => ?_)
  refine run_bind (part20 fun _ => ?_)
  refine swap3.trans ?_
  refine run_bind (part21 fun _ => ?_)
  refine run_bind (part22 fun _ => ?_)
  refine run_bind (part23 fun _ => ?_)
  refine run_bind (part24 fun _ => ?_)
  refine run_bind (part25 ?_)
  refine run_bind (part26 fun _ => ?_)
  refine run_bind (part27 ?_)
  refine run_bind (part28 fun _ => ?_)
  refine run_bind (part29 fun _ => ?_)
  refine run_bind (part30 ?_)
  refine run_bind (part31 fun _ _ => ?_)
  refine run_bind (part32 ?_)
  refine run_bind (part33 ?_)
  refine run_bind (part34 fun _ _ => ?_)
  refine run_bind (part35 ?_)
  refine run_bind (part36 ?_)
  refine (show _ ⊢ iprop(St' xV wV K c 32 16 16 24 4 8 ∗ (∃ X, owns (c : Thread nD τ) A3 fS X) ∗ ins A0 A1 xV wV c f0 f1 ∗ semVal (barCell c) 0 ∗ R) from by
    iintro ⟨H1, H2, H3, H4, H5⟩
    iframe H1 H2 H3 H4 H5).trans ?_
  refine run_bind (part37 ?_)
  refine run_bind (part38 ?_)
  refine run_bind (part39 ?_)
  refine run_bind (part40 ?_)
  refine run_bind (part41 ?_)
  refine run_bind (part42 ?_)
  refine run_bind (part43 ?_)
  refine run_bind (part44 ?_)
  refine run_bind (part45 fun _ _ => ?_)
  refine run_bind (part46 ?_)
  refine run_bind (part47 ?_)
  refine run_bind (part48 ?_)
  refine run_bind (part49 fun _ => ?_)
  refine run_bind (part50 ?_)
  simp only [Prog.lift, Prog.bind_op, Prog.bind_ret, Prog.pure_eq_ret]
  refine ev_keep (.snd (.xt 0)) rfl rfl (by decide) (by decide) rfl (by decide) ?_
  exact run_pure (h _ _ _ _ _ _)

/-- THE BODY, run. -/
theorem body_run {Q : PUnit → sProp 𝕄} (h : iprop(Done A0 A1 A3 xV wV K c f0 f1 ∗ R) ⊢ Q ⟨⟩) :
    iprop(Pre (eV xV wV) (sV xV wV) K c Finset.univ ∗ ins A0 A1 xV wV c f0 f1 ∗ (∃ X, owns (c : Thread nD τ) A3 fS X) ∗ R)
      ⊢ run c (ap A0 h0 A1 h1 A3 h3 cc0_body) Q := by
  rw [cc0_body_eq_skeleton]; unfold ap cc0_body_skel
  refine run_bind (part51 fun _ _ _ _ _ _ => ?_)
  simp only [Prog.lift, Prog.bind_op, Prog.bind_ret, Prog.pure_eq_ret]
  refine ev_keep (.rcv (.xt 0)) rfl rfl (by decide) (by decide) rfl (by decide) ?_
  refine ev_keep (.snd (.xt 1)) rfl rfl (by decide) (by decide) rfl (by decide) ?_
  refine ev_keep (.rcv (.xt 1)) rfl rfl (by decide) (by decide) rfl (by decide) ?_
  refine run_pure (BIBase.Entails.trans ?_ h)
  unfold Done
  iintro ⟨H1, H2, H3, H4, H5, H6⟩
  isplitr [H6]
  · iframe H1 H2 H3 H4 H5
  · iexact H6

end Cert.KernelIdeal.Talk

end
-- ==== Proof.Whole.lean ====
/-
  Whole buffers and their pieces: what the talking kernel starts from, cut into the places its transfers write and the
  blocks it stores; and what its run leaves, put together again.
-/
module

public import proofs.«01_k».proof.Proof.Body

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Taking families out -/

theorem bigSep_take {T ι : Type} [DecidableEq T] [Fintype ι] {S : Finset T} (f : ι → T) (hf : Function.Injective f) (h : ∀ i, f i ∈ S)
    (S' : Finset T) (e : S \ Finset.univ.image f = S') (Φ : T → sProp 𝕄) :
    bigSep S Φ = iprop((bigSep Finset.univ fun i => Φ (f i)) ∗ bigSep S' Φ) := by
  subst e
  rw [bigSep_sdiff_split (t := Finset.univ.image f) (Finset.image_subset_iff.mpr fun i _ => h i),
    show Finset.univ.image f = Finset.univ.map ⟨f, hf⟩ from (Finset.map_eq_image ⟨f, hf⟩ Finset.univ).symm, bigSep_map]
  rfl

theorem bigSep_bij {ι T : Type} [Fintype ι] [Fintype T] (g : ι → T) (hg : Function.Bijective g) (Φ : T → sProp 𝕄) :
    bigSep Finset.univ Φ = bigSep Finset.univ fun i => Φ (g i) := bigSep_univ_equiv (Equiv.ofBijective g hg) Φ

theorem bigSep_sum {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

theorem bigSep_same {T : Type} {S : Finset T} {Φ Ψ : T → sProp 𝕄} (h : ∀ t ∈ S, Φ t = Ψ t) : bigSep S Φ = bigSep S Ψ := bigSep_congr h

theorem sep_both {M : Type} [URA M] {P P' R R' : sProp M} (h : P ⊢ P') (h' : R ⊢ R') : iprop(P ∗ R) ⊢ iprop(P' ∗ R') :=
  (sep_mono_left h).trans (sep_mono_right h')

/-! ## Whole buffers -/

theorem eWhole (c : Dev nD) (q : PosShare TreeShare) (f : S16x32x8192.Idx → Elt F .bf16) :
    (bigSep Finset.univ fun r => ePt c r q f : sProp 𝕄) = (eW.view.loc (c : Thread nD τ) ↦[Finset.univ]{q} f) :=
  blocks_whole (ℓ := eW.view.loc (c : Thread nD τ)) (fun r => (eRect r).set)
    (fun r r' h => Finset.disjoint_left.mpr fun i hi hi' => h (Fin.ext (((mem_eRect r i).mp hi).symm.trans ((mem_eRect r' i).mp hi'))))
    (fun i => ⟨i 0, (mem_eRect _ _).mpr rfl⟩) q f _
    fun r => congrArg (fun S => (eW.view.loc (c : Thread nD τ) ↦[S]{q} f : sProp 𝕄)) (eM_set r)

theorem aWhole (c : Dev nD) (q : PosShare TreeShare) (f : S512x16384.Idx → Elt F .bf16) :
    (bigSep Finset.univ fun p : Fin 16 × Fin 2 => aPt c p.1 p.2 q f : sProp 𝕄) = (aW.view.loc (c : Thread nD τ) ↦[Finset.univ]{q} f) :=
  blocks_whole (ℓ := aW.view.loc (c : Thread nD τ)) (fun p : Fin 16 × Fin 2 => (aRect p.1 p.2).set)
    (fun p p' h => Finset.disjoint_left.mpr fun i hi hi' => h (by
      have h1 := (mem_aRect p.1 p.2 i).mp hi
      have h2 := (mem_aRect p'.1 p'.2 i).mp hi'
      exact Prod.ext (Fin.ext (h1.1.symm.trans h2.1)) (Fin.ext (h1.2.symm.trans h2.2))))
    (fun i => ⟨(⟨(i 0).val / 32, by have : (i 0).val < 512 := (i 0).isLt; omega⟩, ⟨(i 1).val / 8192, by have : (i 1).val < 16384 := (i 1).isLt; omega⟩),
      (mem_aRect _ _ _).mpr ⟨rfl, rfl⟩⟩) q f _
    fun p => congrArg (fun S => (aW.view.loc (c : Thread nD τ) ↦[S]{q} f : sProp 𝕄)) (aM_set p.1 p.2)

/-- The gathered array as its own half and the other half. -/
theorem aHalves (c : Dev nD) (q : PosShare TreeShare) (f : S512x16384.Idx → Elt F .bf16) :
    (aW.view.loc (c : Thread nD τ) ↦[Finset.univ]{q} f : sProp 𝕄)
      = iprop((bigSep Finset.univ fun r => aPt c r (hy c) q f) ∗ bigSep Finset.univ fun r => aPt c r (ho c) q f) := by
  rw [← aWhole, bigSep_bij (fun x : Fin 16 ⊕ Fin 16 => x.elim (fun r => (r, hy c)) fun r => (r, ho c)) (by revert c; decide +kernel), bigSep_sum]
  rfl

/-! ## At the start -/

/-- The places the others write in the other half, by transfer. -/
def landT : Fin 4 ⊕ Fin 4 ⊕ Fin 4 ⊕ Fin 2 ⊕ Fin 2 → Tr
  | .inl k => .y k
  | .inr (.inl k) => .xd k
  | .inr (.inr (.inl k)) => .zd k
  | .inr (.inr (.inr (.inl k))) => .zt k
  | .inr (.inr (.inr (.inr k))) => .xt k
theorem landT_row (c : Dev nD) : Function.Bijective fun i => fRow (landT i) ((landT i).peer c) := by revert c; decide +kernel

theorem dst_home (c : Dev nD) (i : Fin 4 ⊕ Fin 4 ⊕ Fin 4 ⊕ Fin 2 ⊕ Fin 2) :
    dstAny (F := F) (landT i) ((landT i).peer c) = iprop(∃ f, aPt c (fRow (landT i) ((landT i).peer c)) (ho c) fS f) := by
  have h1 : (landT i).peer ((landT i).peer c) = c := peerD_peerD _ c
  have h2 : fHalf (landT i) ((landT i).peer c) = ho c := by revert c i; decide +kernel
  rcases i with k | k | k | k | k <;> (simp only [dstAny, landT] at h1 h2 ⊢; rw [h1, h2])

/-- Each place of the buffers others write, and the signals' share of it. -/
theorem home (c : Dev nD) (fr : S16x32x256.Idx → Elt F .f32) (fa : S512x16384.Idx → Elt F .bf16) :
    iprop((rW.view.loc (c : Thread nD τ) ↦[Finset.univ]{fS} fr) ∗ bigSep Finset.univ fun r => aPt c r (ho c) fS fa)
      ⊢ (bigSep Finset.univ fun t : Tr => dstAny (F := F) t (t.peer c) : sProp 𝕄) := by
  rw [bigSep_bij (fun x : Fin 16 ⊕ (Fin 4 ⊕ Fin 4 ⊕ Fin 4 ⊕ Fin 2 ⊕ Fin 2) => x.elim Tr.st landT) (by decide +kernel), bigSep_sum, ← rWhole,
    bigSep_bij _ (landT_row c) (fun r => aPt c r (ho c) fS fa)]
  refine sep_both (bigSep_le fun r _ => ?_) (bigSep_le fun i _ => ?_)
  · show rPt c r fS fr ⊢ iprop(∃ f, rPt (yp (yp c)) r fS f)
    rw [yp_yp]
    iintro H; iexists fr; iexact H
  · show _ ⊢ dstAny (F := F) (landT i) ((landT i).peer c)
    rw [dst_home]
    iintro H; iexists fa; iexact H

/-- By direction. -/
theorem home_dir (c : Dev nD) : (bigSep Finset.univ fun t : Tr => dstAny (F := F) t (t.peer c) : sProp 𝕄)
    = bigSep Finset.univ fun d : Fin 3 => bigSep (Finset.univ.filter fun t : Tr => t.dir = d) fun t => dstAny (F := F) t (t.peer c) := by
  have e : (Finset.univ : Finset Tr) = (Finset.univ.filter fun t : Tr => t.dir = 0) ∪ ((Finset.univ.filter fun t : Tr => t.dir = 1)
    ∪ (Finset.univ.filter fun t : Tr => t.dir = 2)) := by decide +kernel
  refine (congrArg (fun S => (bigSep S fun t => dstAny (F := F) t (t.peer c) : sProp 𝕄)) e).trans ?_
  rw [bigSep_union (by decide +kernel), bigSep_union (by decide +kernel), show (Finset.univ : Finset (Fin 3)) = insert 0 (insert 1 {2}) from rfl,
    bigSep_insert (by decide), bigSep_insert (by decide), bigSep_singleton]

/-- What storing the blocks takes, beside the tokens. -/
theorem blocks_in (c : Dev nD) (fe : S16x32x8192.Idx → Elt F .bf16) (fs : S16x32x256.Idx → Elt F .f32) (fa : S512x16384.Idx → Elt F .bf16) :
    iprop((bigSep Finset.univ fun r : Fin 16 => dutyTok ER (cell c (.cp r)) 0 0) ∗ (bigSep Finset.univ fun r => aPt c r (hy c) fS fa)
      ∗ (eW.view.loc (c : Thread nD τ) ↦[Finset.univ]{fS} fe) ∗ (sW.view.loc (c : Thread nD τ) ↦[Finset.univ]{fS} fs))
      ⊢ (bigSep Finset.univ (blockRes (F := F) c) : sProp 𝕄) := by
  rw [← eWhole, ← sWhole, ← bigSep_two, ← bigSep_two, ← bigSep_two]
  refine bigSep_le fun r _ => ?_
  unfold blockRes
  iintro ⟨H1, H2, H3, H4⟩
  isplitl [H1]; · iexact H1
  isplitl [H2]; · iexists fa; iexact H2
  isplitl [H3]; · iexists fe; iexact H3
  iexists fs; iexact H4

/-! ## At the end -/

section Out
variable (eV : Dev nD → Fin 16 → FVec F S1x32x8192 .bf16) (sV : Dev nD → Fin 16 → FVec F S1x32x256 .f32) (c : Dev nD)

/-- The device of `c`'s y coordinate and z pair that sends block `r` of rows across y. -/
def who (c : Dev nD) (r : Fin 16) : Dev nD :=
  ⟨8 * (r.val % 2) + 4 * (c.val / 4 % 2) + 2 * (c.val % 4 / 2) + r.val / 2 % 2, by show _ < 16; omega⟩

/-- The gathered array: the own half as computed here, the other half as computed across y. -/
def outV (c : Dev nD) : S512x16384.Idx → Elt F .bf16 := fun i =>
  if (i 1).val / 8192 = (hy c).val then eA eV c i
  else eA eV (yp (who c ⟨(i 0).val / 32, by have : (i 0).val < 512 := (i 0).isLt; omega⟩)) i

theorem out_hy (r : Fin 16) (q : PosShare TreeShare) : (aPt c r (hy c) q (eA eV c) : sProp 𝕄) = aPt c r (hy c) q (outV eV c) :=
  pointsTo_congr fun i hi => by
    rw [aM_set, mem_aRect] at hi
    exact (if_pos hi.2).symm
theorem out_ho (r : Fin 16) (q : PosShare TreeShare) {d : Dev nD} (h : yp (who c r) = d) : (aPt c r (ho c) q (eA eV d) : sProp 𝕄) = aPt c r (ho c) q (outV eV c) :=
  pointsTo_congr fun i hi => by
    rw [aM_set, mem_aRect] at hi
    subst h
    have e : r = ⟨(i 0).val / 32, by have : (i 0).val < 512 := (i 0).isLt; omega⟩ := Fin.ext hi.1.symm
    refine Eq.trans ?_ (if_neg ?_).symm
    · rw [e]
    · rw [hi.2]; simp only [ho, hy]; omega

/-- The payloads that are rows of the other half, whole. -/
def piece : Fin 6 × Fin 2 → TC := fun p => match p.1 with
  | 0 => .snd (.zt p.2)
  | 1 => .rcv (.xd ⟨2 + p.2.val, by omega⟩)
  | 2 => .rcv (.zd ⟨p.2.val, by omega⟩)
  | 3 => .snd (.xt p.2)
  | 4 => .rcv (.zt p.2)
  | 5 => .rcv (.xt p.2)
def pRow (c : Dev nD) : TC → Fin 16
  | .snd t => fRow t c
  | .rcv t => fRow t (t.peer c)
  | .cp r => r
theorem rows_bij : Function.Bijective fun x : Fin 4 ⊕ Fin 6 × Fin 2 => x.elim (own c) fun p => pRow c (piece p) := by revert c; decide +kernel

theorem snd_out (t : Tr) (ht : t.dir ≠ 0) : (pay eV sV c (.snd t) : sProp 𝕄) = aPt c (fRow t c) (ho c) (fShare t) (outV eV c) := by
  have e : yp (who c (fRow t c)) = fSrc t c := by revert c t; decide +kernel
  rw [← out_ho eV c _ _ e]
  cases t <;> first | rfl | exact absurd rfl ht
theorem rcv_out (t : Tr) (ht : t.dir ≠ 0) : (pay eV sV c (.rcv t) : sProp 𝕄) = aPt c (fRow t (t.peer c)) (ho c) fS (outV eV c) := by
  have e : yp (who c (fRow t (t.peer c))) = fSrc t (t.peer c) := by revert c t; decide +kernel
  have e1 : t.peer (t.peer c) = c := peerD_peerD _ c
  have e2 : fHalf t (t.peer c) = ho c := by revert c t; decide +kernel
  rw [← out_ho eV c _ _ e]
  rcases t with r | k | k | k | k | k <;>
    first | exact absurd rfl ht | (show aPt _ _ _ _ _ = _; rw [e1, e2])
theorem piece_out (p : Fin 6 × Fin 2) : (pay eV sV c (piece p) : sProp 𝕄) = aPt c (pRow c (piece p)) (ho c) fS (outV eV c) := by
  obtain ⟨a, k⟩ := p
  have h6 : ∀ a : Fin 6, a = 0 ∨ a = 1 ∨ a = 2 ∨ a = 3 ∨ a = 4 ∨ a = 5 := by decide
  rcases h6 a with rfl | rfl | rfl | rfl | rfl | rfl
  · exact snd_out eV sV c (.zt k) (by simp [Tr.dir])
  · exact rcv_out eV sV c (.xd _) (by simp [Tr.dir])
  · exact rcv_out eV sV c (.zd _) (by simp [Tr.dir])
  · exact snd_out eV sV c (.xt k) (by simp [Tr.dir])
  · exact rcv_out eV sV c (.zt k) (by simp [Tr.dir])
  · exact rcv_out eV sV c (.xt k) (by simp [Tr.dir])

/-- The payloads kept, sorted. -/
theorem kept_out : (bigSep (kept 24 80) (pay eV sV c) : sProp 𝕄)
    = iprop((bigSep Finset.univ fun r => pay eV sV c (.snd (.st r))) ∗ (bigSep Finset.univ fun r => pay eV sV c (.cp r))
      ∗ (bigSep Finset.univ fun k => pay eV sV c (.snd (.y k))) ∗ (bigSep Finset.univ fun k => pay eV sV c (.snd (.xd k)))
      ∗ (bigSep Finset.univ fun k => pay eV sV c (.snd (.zd k))) ∗ (bigSep Finset.univ fun p => pay eV sV c (piece p)) ∗ emp) := by
  rw [bigSep_take (S := kept 24 80) (fun r => TC.snd (.st r)) (by decide +kernel) (by decide +kernel) _ rfl,
    bigSep_take (fun r => TC.cp r) (by decide +kernel) (by decide +kernel) _ rfl,
    bigSep_take (fun k => TC.snd (.y k)) (by decide +kernel) (by decide +kernel) _ rfl,
    bigSep_take (fun k => TC.snd (.xd k)) (by decide +kernel) (by decide +kernel) _ rfl,
    bigSep_take (fun k => TC.snd (.zd k)) (by decide +kernel) (by decide +kernel) _ rfl,
    bigSep_take piece (by decide +kernel) (by decide +kernel) ∅ (by decide +kernel), bigSep_empty]
  rfl

theorem share_join {ℓ : Loc nD τ sig} {I : Finset (Idx ℓ)} {f : Buf (Elt F) ℓ} :
    iprop((ℓ ↦[I]{lS} f) ∗ ℓ ↦[I]{rS} f) ⊢ (ℓ ↦[I]{fS} f : sProp 𝕄) := (pointsTo_share (PosShare.mem_left_op_right fullShare)).2

/-- The gathered array comes back whole, … -/
theorem a_out : iprop((bigSep Finset.univ fun r => aPt c r (hy c) fS (eA eV c)) ∗ (bigSep Finset.univ fun k => pay eV sV c (.snd (.xd k)))
      ∗ (bigSep Finset.univ fun k => pay eV sV c (.snd (.zd k))) ∗ (bigSep Finset.univ fun p => pay eV sV c (piece p)))
    ⊢ (aW.view.loc (c : Thread nD τ) ↦[Finset.univ]{fS} outV eV c : sProp 𝕄) := by
  rw [aHalves, bigSep_bij _ (rows_bij c) (fun r => aPt c r (ho c) fS (outV eV c)), bigSep_sum,
    bigSep_same fun r _ => out_hy eV c r fS, bigSep_same fun p _ => piece_out eV sV c p,
    bigSep_same fun (k : Fin 4) _ => snd_out eV sV c (.xd k) (by simp [Tr.dir]), bigSep_same fun (k : Fin 4) _ => snd_out eV sV c (.zd k) (by simp [Tr.dir])]
  iintro ⟨H1, H2, H3, H4⟩
  isplitl [H1]; · iexact H1
  isplitl [H2 H3]
  · ihave H := (Entails.of_eq (bigSep_two (F := F) (S := (Finset.univ : Finset (Fin 4))) (fun k => aPt c (own c k) (ho c) lS (outV eV c))
      (fun k => aPt c (own c k) (ho c) rS (outV eV c))).symm) $$ [H2 H3]
    · isplitl [H2]; · iexact H2
      iexact H3
    iapply (bigSep_le fun k _ => share_join) $$ H
  · iexact H4

/-- … and the exponentials, … -/
theorem e_out : iprop((bigSep Finset.univ fun r => ePt c r lS (eB eV c)) ∗ (bigSep Finset.univ fun k => ePt c (own c k) rS (eB eV c))
      ∗ bigSep (pool c 16 4) fun r => ePt c r rS (eB eV c))
    ⊢ (eW.view.loc (c : Thread nD τ) ↦[Finset.univ]{fS} eB eV c : sProp 𝕄) := by
  rw [← eWhole]
  have e := bigSep_take (F := F) (own c) (fun k k' h => own_inj c k k' h) (fun _ => Finset.mem_univ _) (pool c 16 4) (by revert c; decide +kernel)
    (fun r => ePt c r rS (eB eV c))
  rw [← e, ← bigSep_two]
  exact bigSep_le fun r _ => share_join

/-- … and the statistics. -/
theorem s_out : iprop((bigSep Finset.univ fun r => sPt c r lS (sB sV c)) ∗ (bigSep Finset.univ fun r => sPt c r rS (sB sV c)))
    ⊢ (sW.view.loc (c : Thread nD τ) ↦[Finset.univ]{fS} sB sV c : sProp 𝕄) := by
  rw [← sWhole, ← bigSep_two]
  exact bigSep_le fun r _ => share_join

/-- THE END STATE, whole buffers again and every counter back. -/
theorem st_out (K : GSem nD τ sig → ℕ) : St eV sV K c 32 16 16 80 4 24
    ⊢ iprop((∃ W, owes (c : Thread nD τ) 0 W) ∗ (bigSep Finset.univ fun x => semVal (cell c x) 0)
      ∗ (aW.view.loc (c : Thread nD τ) ↦[Finset.univ]{fS} outV eV c) ∗ (eW.view.loc (c : Thread nD τ) ↦[Finset.univ]{fS} eB eV c)
      ∗ (sW.view.loc (c : Thread nD τ) ↦[Finset.univ]{fS} sB sV c)) := by
  unfold St
  rw [kept_out, show fromT 32 = ∅ from by decide +kernel, show uptoW 80 = Finset.univ from by decide +kernel, show uptoR 16 = Finset.univ from by decide,
    show owed c ∅ = 0 from Finset.sum_empty,
    show (bigSep Finset.univ fun r => pay eV sV c (.cp r) : sProp 𝕄)
      = bigSep Finset.univ fun r => iprop(aPt c r (hy c) fS (eA eV c) ∗ ePt c r lS (eB eV c)) from rfl, bigSep_two]
  iintro ⟨-, HO, -, -, -, -, HV, He, HS, Hst, ⟨Ha, Hel⟩, Hy, Hx, Hz, Hp, -⟩
  isplitl [HO]; · iexact HO
  isplitl [HV]; · iexact HV
  isplitl [Ha Hx Hz Hp]
  · iapply a_out
    isplitl [Ha]; · iexact Ha
    isplitl [Hx]; · iexact Hx
    isplitl [Hz]; · iexact Hz
    iexact Hp
  isplitl [Hel Hy He]
  · iapply e_out
    isplitl [Hel]; · iexact Hel
    isplitl [Hy]; · iexact Hy
    iexact He
  · iapply s_out
    isplitl [Hst]; · iexact Hst
    iexact HS
end Out

end Cert.KernelIdeal.Talk

end
-- ==== Proof.Data.lean ====
/-
  The two regions' proof data: what each device's buffers hold before, between and after the two kernels.
-/
module

public import proofs.«01_k».proof.Proof.Whole
public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

section Data
variable (m : (ℓ : Loc nD τ sig) → Buf (Elt F) ℓ)

/-- The four row groups of the first argument, and the second argument, as the talking kernel reads them. -/
def xV (c : Dev nD) (q : Fin 4) : FVec F S128x1024 .f32 := View.ld (m ((c : Thread nD τ).loc main_arg0) : S512x1024.Idx → Elt F .f32) (xRect q)
def wV (c : Dev nD) : FVec F S1024x8192 .f32 := View.ld (m ((c : Thread nD τ).loc main_arg1) : S1024x8192.Idx → Elt F .f32) wRect

/-- What the talking kernel holds beside its windows before and after its one point. -/
def buf (c : Dev nD) (r : Ref sig .tc) (f : Buf (Elt F) ((c : Thread nD τ).loc r)) : sProp 𝕄 := (c : Thread nD τ).loc r ↦{fullShare} f
def scr (c : Dev nD) : sProp 𝕄 := Pipeline.scopedRest (Ix := Unit) (Name := ℕ) (U := UU) (Lvl := ℕ) (Val := Elt F) spec0 c
def scr1 (c : Dev nD) : sProp 𝕄 := Pipeline.scopedRest (Ix := Unit) (Name := ℕ) (U := UU) (Lvl := ℕ) (Val := Elt F) spec1 c

/-- Every right and every credit of the talking kernel on device `c`. -/
def rights (c : Dev nD) : sProp 𝕄 :=
  iprop((bigSep Finset.univ fun d : Fin 3 => iprop(dutyTok ER (barCell (peerD d c)) 0 d ∗ reached ER (barCell (peerD d c)) 0))
    ∗ atPos ER (barCell c) 0 ∅ 0
    ∗ (bigSep Finset.univ fun t : Tr => iprop(dutyTok ER (cell c (.snd t)) 0 0 ∗ dutyTok ER (cell (t.peer c) (.rcv t)) 0 0))
    ∗ (bigSep Finset.univ fun r : Fin 16 => dutyTok ER (cell c (.cp r)) 0 0)
    ∗ cred (tallyAt (barCell c) () 3)
    ∗ bigSep (cs 0 0 0) (fun x => cred (tallyAt (cell c x) () (amtT x))))
/-- Every cell's invariant. -/
def invs (K : GSem nD τ sig → ℕ) : sProp 𝕄 :=
  iprop((bigSep Finset.univ fun p : Dev nD × TC => cellInv ER (talkRd (eV (xV m) (wV m)) (sV (xV m) (wV m))) (K (cell p.1 p.2)) (cell p.1 p.2))
    ∗ bars (eV (xV m) (wV m)) (sV (xV m) (wV m)) K)
instance invs_persistent (K : GSem nD τ sig → ℕ) : BI.Persistent (invs m K) := by unfold invs; infer_instance

/-- Before the launch of the talking kernel: its counters not yet opened; -/
def Tk (c : Dev nD) : sProp 𝕄 := iprop(∃ K, invs m K ∗ rights (F := F) c ∗ bigSep Finset.univ fun x : TC => openTok ER (cell c x))
/-- opened; -/
def Xk (c : Dev nD) : sProp 𝕄 :=
  iprop(∃ K, invs m K ∗ rights (F := F) c ∗ levs ∗ bigSep Finset.univ fun x : TC => iprop(atPos ER (cell c x) 0 ∅ 0 ∗ reached ER (cell c x) 0))
/-- and what is left of it afterwards. -/
def Yk (c : Dev nD) : sProp 𝕄 := semVal (barCell c) 0

def out (c : Dev nD) : S512x16384.Idx → Elt F .bf16 := outV (eV (xV m) (wV m)) c

def dat0 (c : Dev nD) : Dat τ (Elt F) Unit ℕ UU ℕ cfg0 c where
  A w := m ((cfg0.win w).arr.view.loc (c : Thread nD τ))
  after w _ := match w with
    | 0 => (m ((c : Thread nD τ).loc main_arg0) : S512x1024.Idx → Elt F .f32)
    | 1 => (m ((c : Thread nD τ).loc main_arg1) : S1024x8192.Idx → Elt F .f32)
    | 2 => fac (xV m) (wV m) c
  Φ t := if t.val = 0 then iprop(Xk m c ∗ buf c main_v1_0 (m ((c : Thread nD τ).loc main_v1_0)) ∗ scr c ∗ ∃ r, prngReg c r)
    else iprop(Yk c ∗ (bigSep Finset.univ fun x : TC => semVal (cell c x) 0) ∗ buf c main_v1_0 (out m c) ∗ scr c ∗ ∃ r, prngReg c r)
  q _ := fullShare
  owed t := if t.val = 0 then O₀ c else 0

/-- After the talking kernel: the gathered exponentials and the factors. -/
def W1 (c : Dev nD) : Valuation τ sig (Elt F) := Function.update (Function.update (V0 m c) main_v1_1 ((dat0 m c).arrAt 2 cfg0.N)) main_v1_0 (out m c)

/-- Block `t` of the exponentials and of the factors. -/
def eT (c : Dev nD) (t : Fin cfg1.N) : S128x16384.Idx → Elt F .bf16 := ((cfg1.win 0).blk t).view.read (Elt F) (W1 m c main_v1_0)
def fT (c : Dev nD) (t : Fin cfg1.N) : S128x256.Idx → Elt F .f32 := ((cfg1.win 1).blk t).view.read (Elt F) (W1 m c main_v1_1)

end Data

abbrev halfL : Rect S128x16384 := Rect.unit (s := S128x16384) ![0, 0] S128x8192.size inb_S128x16384_S128x8192_0_0
abbrev halfR : Rect S128x16384 := Rect.unit (s := S128x16384) ![0, 8192] S128x8192.size inb_S128x16384_S128x8192_0_8192
abbrev col0 : Rect S128x256 := Rect.unit (s := S128x256) ![0, 0] S128x1.size inb_S128x256_S128x1_0_0
abbrev col1 : Rect S128x256 := Rect.unit (s := S128x256) ![0, 128] S128x1.size inb_S128x256_S128x1_0_128

/-- A block of the result from the same block of the exponentials and of the factors: each half times its factor. -/
def nrm (e : S128x16384.Idx → Elt F .bf16) (f : S128x256.Idx → Elt F .f32) : S128x16384.Idx → Elt F .f32 :=
  View.canon [⟨halfR, k1_pay2 (View.ld f col1) (View.ld e halfR)⟩, ⟨halfL, k1_pay1 (View.ld f col0) (View.ld e halfL)⟩]

theorem mem_halfL (y : S128x16384.Idx) : y ∈ halfL.set ↔ (y 1).val < 8192 := by
  refine Rect.mem_set_unit.trans (Fin.forall_fin_two.trans ?_)
  have h0 : (y 0).val < 128 := (y 0).isLt
  show (0 ≤ (y 0).val ∧ (y 0).val < 0 + 128) ∧ (0 ≤ (y 1).val ∧ (y 1).val < 0 + 8192) ↔ _
  omega
theorem mem_halfR (y : S128x16384.Idx) : y ∈ halfR.set ↔ 8192 ≤ (y 1).val := by
  refine Rect.mem_set_unit.trans (Fin.forall_fin_two.trans ?_)
  have h0 : (y 0).val < 128 := (y 0).isLt
  have h1 : (y 1).val < 16384 := (y 1).isLt
  show (0 ≤ (y 0).val ∧ (y 0).val < 0 + 128) ∧ (8192 ≤ (y 1).val ∧ (y 1).val < 8192 + 8192) ↔ _
  omega
theorem halves (y : S128x16384.Idx) (L R : S128x8192.Idx → Elt F .f32) :
    ∃ p ∈ ([⟨halfR, R⟩, ⟨halfL, L⟩] : List (View.Piece (Elt F) S128x16384 .f32)), y ∈ p.1.set := by
  by_cases h : (y 1).val < 8192
  · exact ⟨⟨halfL, L⟩, List.mem_cons_of_mem _ (List.mem_singleton_self _), (mem_halfL y).mpr h⟩
  · exact ⟨⟨halfR, R⟩, List.mem_cons_self, (mem_halfR y).mpr (by omega)⟩

section Data
variable (m : (ℓ : Loc nD τ sig) → Buf (Elt F) ℓ)

def dat1 (c : Dev nD) : Dat τ (Elt F) Unit ℕ UU ℕ cfg1 c where
  A w := W1 m c (Proc.devRef .tc (Pipeline.arrRef spec1 w))
  after w t := match w with
    | 0 => eT m c t
    | 1 => fT m c t
    | 2 => nrm (eT m c t) (fT m c t)
  Φ _ := iprop(scr1 c ∗ ∃ r, prngReg c r)
  q _ := fullShare
  owed _ := 0

/-- After both kernels. -/
def W2 (c : Dev nD) : Valuation τ sig (Elt F) := Function.update (W1 m c) main_v2 ((dat1 m c).arrAt 2 cfg1.N)

def pdats : (p : Fin 2) → (c : Dev nD) → Dat τ (Elt F) Unit ℕ UU ℕ (Pipeline.pin (pcfgs (F := F)) adm p) c
  | 0 => dat0 m
  | 1 => dat1 m

end Data

/-! ## What a device owes, between points -/

theorem owesAt_intro {cfg : Pipeline.Cfg sig Λ₀} {c : Dev nD} (dat : Dat τ (Elt F) Unit ℕ UU ℕ cfg c) (t : Fin (cfg.N + 1))
    {O : CellTallies nD τ sig Unit} (h0 : dat.owed t = O) (hr : dat.recorded t = Set.univ) :
    iprop(∃ W, owes (c : Thread nD τ) O W) ⊢ (dat.owesAt () t : sProp 𝕄) := by
  subst h0
  unfold Dat.owesAt Pipeline.owesWithin Dat.bound
  rw [hr]
  iintro ⟨%W, HO⟩
  iexists W
  isplitr
  · ipureintro; exact fun _ _ => .inl trivial
  · iexact HO
theorem owesAt_elim {cfg : Pipeline.Cfg sig Λ₀} {c : Dev nD} (dat : Dat τ (Elt F) Unit ℕ UU ℕ cfg c) (t : Fin (cfg.N + 1))
    {O : CellTallies nD τ sig Unit} (h0 : dat.owed t = O) :
    (dat.owesAt () t : sProp 𝕄) ⊢ iprop(∃ W, owes (c : Thread nD τ) O W) := by
  subst h0
  unfold Dat.owesAt Pipeline.owesWithin
  iintro ⟨%W, -, HO⟩
  iexists W
  iexact HO

end Cert.KernelIdeal.Talk

end
-- ==== Proof.Region0.lean ====
/-
  The first kernel's region: its counters opened, the places others write handed out, the body run, everything whole again.
-/
module

public import proofs.«01_k».proof.Proof.Data

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

/-- Its semaphores. -/
abbrev osem0 (x : TC) : SemLoc sig := .dma (wT x)

theorem invs_inv (K : GSem nD τ sig → ℕ) (c' : Dev nD) (x : TC) :
    invs m K ⊢ (cellInv ER (talkRd (eV (xV m) (wV m)) (sV (xV m) (wV m))) (K (cell c' x)) (cell c' x) : sProp 𝕄) := by
  unfold invs
  exact sep_elim_left.trans (bigSep_elim (Φ := fun p : Dev nD × TC => cellInv ER (talkRd (eV (xV m) (wV m)) (sV (xV m) (wV m))) (K (cell p.1 p.2)) (cell p.1 p.2)) (Finset.mem_univ (c', x)))

theorem open_one (K : GSem nD τ sig → ℕ) (x : TC) : iprop(invs m K ∗ openTok ER (cell c x) ∗ semVal (cell c x) 0)
    ⊢ (|={Set.univ}=> (atPos ER (cell c x) 0 ∅ 0 ∗ reached ER (cell c x) 0) : sProp 𝕄) := by
  iintro ⟨#HI, Ho, Hv⟩
  iapply (Rounds.cell_open ER (talkRd (eV (xV m) (wV m)) (sV (xV m) (wV m))) (g := cell c x) (Set.mem_univ (K (cell c x))))
  isplitr
  · iapply (invs_inv m K c x); iexact HI
  isplitl [Ho]; · iexact Ho
  iexact Hv

theorem hopen0 : iprop(Tk m c ∗ Pipeline.ownSems0 osem0 c ∗ levAts L lv) ⊢ (|={Set.univ}=> Xk m c : sProp 𝕄) := by
  unfold Tk Xk Pipeline.ownSems0
  iintro ⟨⟨%K, #HI, HR, Ho⟩, Hs, HL⟩
  have hx := (bigSep_pers Finset.univ (invs m K) (fun x : TC => iprop(openTok ER (cell c x) ∗ semVal (cell c x) 0)) _ (fun x _ => open_one m c K x)).trans
    (bigSep_fupd Finset.univ fun x : TC => iprop(atPos ER (cell c x) 0 ∅ 0 ∗ reached ER (cell c x) 0))
  rw [bigSep_two] at hx
  imod hx $$ [Ho Hs] with H
  · isplitr; · iexact HI
    isplitl [Ho]; · iexact Ho
    iexact Hs
  imodintro
  iexists K
  isplitr; · iexact HI
  isplitl [HR]; · iexact HR
  isplitl [HL]; · unfold levs; iexact HL
  iexact H

/-- Everything the body starts from. -/
theorem pre_in (fe : S16x32x8192.Idx → Elt F .bf16) (fs fr : S16x32x256.Idx → Elt F .f32) (fa : S512x16384.Idx → Elt F .bf16) :
    iprop(Xk m c ∗ (aW.view.loc (c : Thread nD τ) ↦[Finset.univ]{fS} fa) ∗ (eW.view.loc (c : Thread nD τ) ↦[Finset.univ]{fS} fe)
      ∗ (sW.view.loc (c : Thread nD τ) ↦[Finset.univ]{fS} fs) ∗ (rW.view.loc (c : Thread nD τ) ↦[Finset.univ]{fS} fr) ∗ (∃ W, owes (c : Thread nD τ) (O₀ c) W))
      ⊢ (∃ K, Pre (eV (xV m) (wV m)) (sV (xV m) (wV m)) K c Finset.univ : sProp 𝕄) := by
  unfold Xk
  rw [aHalves, bigSep_two]
  iintro ⟨⟨%K, #HI, HR, HL, Hat, Hre⟩, ⟨Hy, Ho⟩, He, Hs, Hr, HO⟩
  unfold rights invs
  icases HI with ⟨#HI, #HB⟩
  icases HR with ⟨Htd, Hb, Htr, Hcp, Hc3, Hcs⟩
  iexists K
  unfold Pre known rest0
  isplitl [Hre HL]
  · isplitr; · iexact HI
    isplitl [Hre]; · iexact Hre
    iexact HL
  isplitr; · iexact HB
  isplitl [HO]; · iexact HO
  isplitl [Htd Hr Ho]
  · ihave Hh := (home c fr fa) $$ [Hr Ho]
    · isplitl [Hr]; · iexact Hr
      iexact Ho
    ihave Hd := (Entails.of_eq (home_dir (F := F) c)) $$ Hh
    have e : iprop((bigSep Finset.univ fun d : Fin 3 => iprop(dutyTok ER (barCell (peerD d c)) 0 d ∗ reached ER (barCell (peerD d c)) 0))
        ∗ bigSep Finset.univ fun d : Fin 3 => bigSep (Finset.univ.filter fun t : Tr => t.dir = d) fun t => dstAny (F := F) t (t.peer c))
        ⊢ bigSep Finset.univ (todo (F := F) c) := by
      rw [← bigSep_two]
      refine bigSep_le fun d _ => ?_
      unfold todo
      iintro ⟨⟨H1, H2⟩, H3⟩
      isplitl [H1]; · iexact H1
      isplitl [H2]; · iexact H2
      iexact H3
    iapply e
    isplitl [Htd]; · iexact Htd
    iexact Hd
  isplitl [Hc3]; · iexact Hc3
  isplitl [Hb]; · iexact Hb
  isplitl [Htr]; · iexact Htr
  isplitl [Hcp Hy He Hs]
  · iapply (blocks_in c fe fs fa)
    isplitl [Hcp]; · iexact Hcp
    isplitl [Hy]; · iexact Hy
    isplitl [He]; · iexact He
    iexact Hs
  isplitl [Hcs]; · iexact Hcs
  iexact Hat

theorem before0_0 (t : Fin cfg0.N) (d) : (dat0 m c).before 0 t d = (m ((c : Thread nD τ).loc main_arg0) : S512x1024.Idx → Elt F .f32) := by
  obtain rfl := fin_N0 t
  unfold Dat.before; rw [if_pos (fetch0_0 _)]
  funext i
  exact congrArg (m ((c : Thread nD τ).loc main_arg0)) (funext fun a => Fin.ext (Pipeline.Window.rect_emb_val_of_index_zero win0_0 t0_0 a (by revert a; decide) i))
theorem before0_1 (t : Fin cfg0.N) (d) : (dat0 m c).before 1 t d = (m ((c : Thread nD τ).loc main_arg1) : S1024x8192.Idx → Elt F .f32) := by
  obtain rfl := fin_N0 t
  unfold Dat.before; rw [if_pos (fetch0_1 _)]
  funext i
  exact congrArg (m ((c : Thread nD τ).loc main_arg1)) (funext fun a => Fin.ext (Pipeline.Window.rect_emb_val_of_index_zero win0_1 t0_0 a (by revert a; decide) i))
theorem after0_0 (t : Fin cfg0.N) : (dat0 m c).after 0 t = (m ((c : Thread nD τ).loc main_arg0) : S512x1024.Idx → Elt F .f32) := by dsimp only [dat0]
theorem after0_1 (t : Fin cfg0.N) : (dat0 m c).after 1 t = (m ((c : Thread nD τ).loc main_arg1) : S1024x8192.Idx → Elt F .f32) := by dsimp only [dat0]
theorem after0_2 (t : Fin cfg0.N) : (dat0 m c).after 2 t = fac (xV m) (wV m) c := by dsimp only [dat0]
theorem Φ0_first : (dat0 m c).Φ t0_0.castSucc = iprop(Xk m c ∗ buf c main_v1_0 (m ((c : Thread nD τ).loc main_v1_0)) ∗ scr c ∗ ∃ r, prngReg c r) := rfl
theorem Φ0_last : (dat0 m c).Φ t0_0.succ
    = iprop(Yk c ∗ (bigSep Finset.univ fun x : TC => semVal (cell c x) 0) ∗ buf c main_v1_0 (out m c) ∗ scr c ∗ ∃ r, prngReg c r) := rfl

/-- The windows the body only reads. -/
theorem ins_in {A0 : Memref sig .tc .vmem S512x1024 .f32} {A1 : Memref sig .tc .vmem S1024x8192 .f32} :
    iprop(owns (c : Thread nD τ) A0 fS (m ((c : Thread nD τ).loc main_arg0) : S512x1024.Idx → Elt F .f32)
      ∗ owns (c : Thread nD τ) A1 fS (m ((c : Thread nD τ).loc main_arg1) : S1024x8192.Idx → Elt F .f32))
      ⊢ (∃ f0 f1, ⌜A0.view.read (Elt F) f0 = (m ((c : Thread nD τ).loc main_arg0) : S512x1024.Idx → Elt F .f32)
        ∧ A1.view.read (Elt F) f1 = (m ((c : Thread nD τ).loc main_arg1) : S1024x8192.Idx → Elt F .f32)⌝ ∗ ins A0 A1 (xV m) (wV m) c f0 f1 : sProp 𝕄) := by
  unfold owns ins
  iintro ⟨⟨%f0, %h0, H0⟩, %f1, %h1, H1⟩
  iexists f0, f1
  isplitr; · ipureintro; exact ⟨h0, h1⟩
  isplitr
  · ipureintro
    exact ⟨fun q => congrArg (fun X => View.ld X (xRect q)) h0, congrArg (fun X => View.ld X wRect) h1⟩
  isplitl [H0]; · iexact H0
  iexact H1

/-- The scratch buffers the body works in, and the rest of the scoped ones. -/
def others : sProp 𝕄 := iprop((∃ f, buf (F := F) c cc1_stg0_0 f) ∗ (∃ f, buf (F := F) c cc1_stg0_1 f) ∗ (∃ f, buf (F := F) c cc1_stg1_0 f)
  ∗ (∃ f, buf (F := F) c cc1_stg1_1 f) ∗ (∃ f, buf (F := F) c cc1_stg2_0 f) ∗ (∃ f, buf (F := F) c cc1_stg2_1 f))
theorem scr_eq : (scr c : sProp 𝕄) = iprop((∃ f, eW.view.loc (c : Thread nD τ) ↦[Finset.univ]{fS} f) ∗ (∃ f, sW.view.loc (c : Thread nD τ) ↦[Finset.univ]{fS} f)
    ∗ (∃ f, rW.view.loc (c : Thread nD τ) ↦[Finset.univ]{fS} f) ∗ others c) := by
  unfold scr
  rw [scopedRest0_eq]
  rfl

theorem buf_eq (f : S512x16384.Idx → Elt F .bf16) : (buf c main_v1_0 f : sProp 𝕄) = (aW.view.loc (c : Thread nD τ) ↦[Finset.univ]{fS} f) := rfl

/-- What is left when the body is done. -/
theorem done_out {A0 : Memref sig .tc .vmem S512x1024 .f32} {A1 : Memref sig .tc .vmem S1024x8192 .f32} {A3 : Memref sig .tc .vmem S512x256 .f32}
    (K : GSem nD τ sig → ℕ) (f0 : Buf (Elt F) (A0.view.loc (c : Thread nD τ))) (f1 : Buf (Elt F) (A1.view.loc (c : Thread nD τ)))
    (h0 : A0.view.read (Elt F) f0 = (m ((c : Thread nD τ).loc main_arg0) : S512x1024.Idx → Elt F .f32))
    (h1 : A1.view.read (Elt F) f1 = (m ((c : Thread nD τ).loc main_arg1) : S1024x8192.Idx → Elt F .f32)) :
    iprop(Done A0 A1 A3 (xV m) (wV m) K c f0 f1 ∗ others c ∗ ∃ r, prngReg c r)
      ⊢ (iprop((Yk c ∗ (bigSep Finset.univ fun x : TC => semVal (cell c x) 0) ∗ buf c main_v1_0 (out m c) ∗ scr c ∗ ∃ r, prngReg c r)
        ∗ (∃ W, owes (c : Thread nD τ) 0 W)
        ∗ owns (c : Thread nD τ) A0 fS (m ((c : Thread nD τ).loc main_arg0) : S512x1024.Idx → Elt F .f32)
        ∗ owns (c : Thread nD τ) A1 fS (m ((c : Thread nD τ).loc main_arg1) : S1024x8192.Idx → Elt F .f32)
        ∗ owns (c : Thread nD τ) A3 fS (fac (xV m) (wV m) c)) : sProp 𝕄) := by
  unfold Done
  refine (sep_mono_left (sep_mono_left (st_out (eV (xV m) (wV m)) (sV (xV m) (wV m)) c K))).trans ?_
  rw [scr_eq, buf_eq]
  unfold ins owns Yk out
  iintro ⟨⟨⟨HO, Hv, Ha, He, Hs⟩, Hr, H3, ⟨-, H0, H1⟩, Hb⟩, Hoth, Hp⟩
  isplitl [Hv Ha He Hs Hr Hb Hoth Hp]
  · isplitl [Hb]; · iexact Hb
    isplitl [Hv]; · iexact Hv
    isplitl [Ha]; · iexact Ha
    isplitr [Hp]
    · isplitl [He]; · iexists _; iexact He
      isplitl [Hs]; · iexists _; iexact Hs
      isplitl [Hr]; · iexists _; iexact Hr
      iexact Hoth
    iexact Hp
  isplitl [HO]; · iexact HO
  isplitl [H0]
  · iexists f0; isplitr; · ipureintro; exact h0
    iexact H0
  isplitl [H1]
  · iexists f1; isplitr; · ipureintro; exact h1
    iexact H1
  iexact H3

/-- THE TALKING KERNEL AT ITS ONE POINT. -/
theorem talk_run {A0 : Memref sig .tc .vmem S512x1024 .f32} {h0 : A0.IsWhole} {A1 : Memref sig .tc .vmem S1024x8192 .f32} {h1 : A1.IsWhole}
    {A3 : Memref sig .tc .vmem S512x256 .f32} {h3 : A3.IsWhole} {Q : PUnit → sProp 𝕄}
    (h : iprop((Yk c ∗ (bigSep Finset.univ fun x : TC => semVal (cell c x) 0) ∗ buf c main_v1_0 (out m c) ∗ scr c ∗ ∃ r, prngReg c r)
        ∗ (∃ W, owes (c : Thread nD τ) 0 W)
        ∗ owns (c : Thread nD τ) A0 fS (m ((c : Thread nD τ).loc main_arg0) : S512x1024.Idx → Elt F .f32)
        ∗ owns (c : Thread nD τ) A1 fS (m ((c : Thread nD τ).loc main_arg1) : S1024x8192.Idx → Elt F .f32)
        ∗ owns (c : Thread nD τ) A3 fS (fac (xV m) (wV m) c)) ⊢ Q ⟨⟩) :
    iprop((Xk m c ∗ buf c main_v1_0 (m ((c : Thread nD τ).loc main_v1_0)) ∗ scr c ∗ ∃ r, prngReg c r)
        ∗ (∃ W, owes (c : Thread nD τ) (O₀ c) W)
        ∗ owns (c : Thread nD τ) A0 fS (m ((c : Thread nD τ).loc main_arg0) : S512x1024.Idx → Elt F .f32)
        ∗ owns (c : Thread nD τ) A1 fS (m ((c : Thread nD τ).loc main_arg1) : S1024x8192.Idx → Elt F .f32)
        ∗ (∃ X, owns (c : Thread nD τ) A3 fS X)) ⊢ run c (ap A0 h0 A1 h1 A3 h3 cc0_body) Q := by
  rw [scr_eq, buf_eq]
  iintro ⟨⟨HX, Ha, ⟨⟨%fe, He⟩, ⟨%fs, Hs⟩, ⟨%fr, Hr⟩, Hoth⟩, Hp⟩, HO, H0, H1, H3⟩
  ihave HP := (pre_in m c fe fs fr (m ((c : Thread nD τ).loc main_v1_0))) $$ [HX Ha He Hs Hr HO]
  · isplitl [HX]; · iexact HX
    isplitl [Ha]; · iexact Ha
    isplitl [He]; · iexact He
    isplitl [Hs]; · iexact Hs
    isplitl [Hr]; · iexact Hr
    iexact HO
  icases HP with ⟨%K, HP⟩
  ihave Hi := (ins_in m c (A0 := A0) (A1 := A1)) $$ [H0 H1]
  · isplitl [H0]; · iexact H0
    iexact H1
  icases Hi with ⟨%f0, %f1, %hf, Hi⟩
  iapply (body_run (h0 := h0) (h1 := h1) (h3 := h3) (f0 := f0) (f1 := f1) ((done_out m c K f0 f1 hf.1 hf.2).trans h))
  isplitl [HP]; · iexact HP
  isplitl [Hi]; · iexact Hi
  isplitl [H3]; · iexact H3
  isplitl [Hoth]; · iexact Hoth
  iexact Hp

theorem body0_eq : bodyAt0 (F := F) t0_0 = ap (win0_0.stage (cfg0.slots t0_0 0)) (hstage0_0 0) (win0_1.stage (cfg0.slots t0_0 1)) (hstage0_1 0)
    (win0_2.stage (cfg0.slots t0_0 2)) (hstage0_2 0) cc0_body := rfl

set_option maxRecDepth 65536 in
theorem defs0_eq : defs₀ (F := F) .tc cfg0.body (cfg0.bodyArgs t0_0 (cfg0.slots t0_0)) = bodyAt0 t0_0 := rfl

set_option maxRecDepth 65536 in
theorem body0 : BodyObligation (dat0 m c) defs₀ 𝒱₀ () Set.univ := fun t => by
  obtain rfl := fin_N0 t
  rw [defs0_eq, body0_eq]
  refine BIBase.Entails.trans ?_ (talk_run (F := F) m c (A0 := win0_0.stage (cfg0.slots t0_0 0)) (h0 := hstage0_0 0) (A1 := win0_1.stage (cfg0.slots t0_0 1)) (h1 := hstage0_1 0)
    (A3 := win0_2.stage (cfg0.slots t0_0 2)) (h3 := hstage0_2 0) ?_)
  · rw [bigSep_W0, Φ0_first]
    iintro ⟨HΦ, HO, ⟨%d0, H0⟩, ⟨%d1, H1⟩, %d2, H2⟩
    rw [before0_0, before0_1]
    isplitl [HΦ]; · iexact HΦ
    isplitl [HO]; · iapply (owesAt_elim (dat0 m c) t0_0.castSucc (O := O₀ c) rfl); iexact HO
    isplitl [H0]; · iexact H0
    isplitl [H1]; · iexact H1
    iexists _; iexact H2
  · rw [bigSep_W0, Φ0_last, after0_0, after0_1, after0_2]
    iintro ⟨HΦ, HO, H0, H1, H2⟩
    isplitl [HΦ]; · iexact HΦ
    isplitl [HO]; · iapply (owesAt_intro (dat0 m c) t0_0.succ (O := 0) rfl rfl); iexact HO
    isplitl [H0]; · iexact H0
    isplitl [H1]; · iexact H1
    iexact H2

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffer the body addresses itself, and those held beside the windows' arrays. -/
def own0 : Finset (DevRef τ sig) := {Proc.devRef .tc main_v1_0}
def rest0' : Finset (DevRef τ sig) := {Proc.devRef .tc main_v1_0, Proc.devRef .tc main_v2}

theorem W1_of (r : Ref sig .tc) (h : r ≠ main_v1_0) (h' : r ≠ main_v1_1) : W1 m c (Proc.devRef .tc r) = m ((c : Thread nD τ).loc r) :=
  (Function.update_of_ne (StableHlo.devRef_ne_of_ne h) _ _).trans (Function.update_of_ne (StableHlo.devRef_ne_of_ne h') _ _)
theorem W1_v1_0 : W1 m c (Proc.devRef .tc main_v1_0) = out m c :=
  Function.update_self (β := fun b : DevRef τ sig => b.ty.Contents (Elt F)) _ _ _
theorem W1_v1_1 : W1 m c (Proc.devRef .tc main_v1_1) = (dat0 m c).arrAt 2 cfg0.N :=
  (Function.update_of_ne (StableHlo.devRef_ne_of_ne (show main_v1_1 ≠ main_v1_0 by decide)) _ _).trans
    (Function.update_self (β := fun b : DevRef τ sig => b.ty.Contents (Elt F)) _ _ _)
theorem W1_arr (w : Fin 3) : (dat0 m c).arrAt w cfg0.N = W1 m c (Proc.devRef .tc (Pipeline.arrRef spec0 w)) := by
  match w with
  | 0 => exact ((dat0 m c).arrAt_in 0 rfl _).trans (W1_of m c main_arg0 (by decide) (by decide)).symm
  | 1 => exact ((dat0 m c).arrAt_in 1 rfl _).trans (W1_of m c main_arg1 (by decide) (by decide)).symm
  | 2 => exact (W1_v1_1 m c).symm

theorem lv_stage0 : ∀ (w : Fin 3) (s : Fin (spec0 w).nbuf), lvS ((spec0 w).sem s) = 0 := by decide +kernel

theorem owed_lev {g : GSem nD τ sig} {u : Unit} (h : 0 < O₀ c g u) : u ∈ L g ∧ (0 : ℕ) < lv g u := by
  unfold O₀ at h
  rw [Pi.add_apply, Finsupp.add_apply] at h
  rcases Nat.add_pos_iff_pos_or_pos.mp h with h | h
  · obtain ⟨t, -, rfl⟩ := owed_pos h
    refine ⟨by rw [L_tc]; exact Finset.mem_singleton_self _, ?_⟩
    show 0 < lvS (wT (.rcv t))
    rw [lvS_wT]
    exact Nat.lt_of_lt_of_le (by decide) (Nat.le_add_right 2 _)
  · rw [Finset.sum_apply, Finsupp.finset_sum_apply] at h
    obtain ⟨d, -, hd⟩ := Finset.exists_ne_zero_of_sum_ne_zero h.ne'
    rw [tallyAt_apply] at hd
    split at hd
    · next hg =>
      obtain rfl := hg.1
      exact ⟨by rw [L_tc]; exact Finset.mem_singleton_self _, Nat.one_pos⟩
    · exact absurd rfl hd

theorem held_own (W : Valuation τ sig (Elt F)) : (StableHlo.held (c : Thread nD τ) own0 W : sProp 𝕄) = buf c main_v1_0 (W main_v1_0) := by
  unfold StableHlo.held own0; rw [bigSep_singleton]; rfl

set_option backward.isDefEq.respectTransparency.types false in
/-- THE TALKING KERNEL'S REGION. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide +kernel : Pipeline.OwnSemFacts spec0 osem0)
    own0 rest0' (by decide) kit0 rfl (fun c => (body0 m c).loose)
    (fun _ => 0) O₀ (fun c => (zero_add (O₀ c)).symm) (fun _ => rfl) (fun _ => rfl) (fun c w => by show (if _ then fullShare else fullShare) = fullShare; exact ite_self _)
    (fun c b => m (c, b)) (W1 m)
    (fun c b hb => by
      obtain rfl : b = Proc.devRef .tc main_v2 := by revert hb; revert b; decide
      exact W1_of m c main_v2 (by decide) (by decide))
    (Tk m) Yk (Xk m) Yk (hopen0 m)
    (fun c => by
      rw [held_own, show (pdats m 0 c).Φ 0 = iprop(Xk m c ∗ buf c main_v1_0 (m ((c : Thread nD τ).loc main_v1_0)) ∗ scr c ∗ ∃ r, prngReg c r) from rfl]
      iintro ⟨Hs, Hp, Hh, HX⟩
      unfold scr
      isplitl [HX]; · iexact HX
      isplitl [Hh]; · iexact Hh
      isplitl [Hs]; · iexact Hs
      iexact Hp)
    (fun c => by
      rw [held_own, W1_v1_0, show (pdats m 0 c).Φ (Fin.last _) = iprop(Yk c ∗ (bigSep Finset.univ fun x : TC => semVal (cell c x) 0) ∗ buf c main_v1_0 (out m c) ∗ scr c ∗ ∃ r, prngReg c r) from rfl]
      iintro ⟨HY, Hv, Ha, Hs, Hp⟩
      unfold scr Pipeline.ownSems0
      isplitl [Hs]; · iexact Hs
      isplitl [Hp]; · iexact Hp
      isplitl [Ha]; · iexact Ha
      isplitl [Hv]; · iexact Hv
      iexact HY)
    (fun c => fupd_intro) (fun _ => 0)
    ⟨fun c w s => by rw [L_tc]; exact Finset.mem_singleton_self _, fun c w s => (lv_stage0 w s).le, fun c t g i h => by
      have e : (pdats m 0 c).owed t = if t.val = 0 then O₀ c else 0 := rfl
      rw [e] at h
      split at h
      · exact owed_lev c h
      · exact absurd h (Nat.lt_irrefl 0)⟩
    (fun _ => iprop(emp))
    (fun _ _ => rfl) (fun c w => W1_arr m c w)

end Cert.KernelIdeal.Talk

end
-- ==== Proof.Region1.lean ====
/-
  The second kernel: each block of the result is the exponentials' block times the factors' block.
-/
module

public import proofs.«01_k».proof.Proof.Data

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

theorem norm_run {i : grid1.Coords} {A1 : Memref sig .tc .vmem S128x16384 .bf16} {h1 : A1.IsWhole} {A2 : Memref sig .tc .vmem S128x256 .f32} {h2 : A2.IsWhole}
    {A3 : Memref sig .tc .vmem S128x16384 .f32} {h3 : A3.IsWhole} (e : S128x16384.Idx → Elt F .bf16) (f : S128x256.Idx → Elt F .f32)
    {R : sProp 𝕄} {Q : PUnit → sProp 𝕄}
    (h : iprop(owns (c : Thread nD τ) A1 fullShare e ∗ owns (c : Thread nD τ) A2 fullShare f ∗ owns (c : Thread nD τ) A3 fullShare (nrm e f) ∗ R) ⊢ Q ⟨⟩) :
    iprop(owns (c : Thread nD τ) A1 fullShare e ∗ owns (c : Thread nD τ) A2 fullShare f ∗ (∃ X, owns (c : Thread nD τ) A3 fullShare X) ∗ R)
      ⊢ run c (cc1_body (F := F) i A1 h1 A2 h2 A3 h3) Q := by
  rw [cc1_body_eq_skeleton]
  unfold cc1_body_skel owns
  iintro ⟨⟨%fe, %he, H1⟩, ⟨%ff, %hf, H2⟩, ⟨%X, %fo, %ho, H3⟩, HR⟩
  subst he hf
  iapply (wp_load_rect 𝒱₀ (c : Thread nD τ) none Set.univ (m := A2) (r := col0) (S := A2.view.set) (f := ff) (View.set_slice_subset _ _)) $$ H2
  iintro H2
  iapply (wp_load_rect 𝒱₀ (c : Thread nD τ) none Set.univ (m := A2) (r := col1) (S := A2.view.set) (f := ff) (View.set_slice_subset _ _)) $$ H2
  iintro H2
  iapply (wp_load_rect 𝒱₀ (c : Thread nD τ) none Set.univ (m := A1) (r := halfL) (S := A1.view.set) (f := fe) (View.set_slice_subset _ _)) $$ H1
  iintro H1
  iapply (wp_load_rect 𝒱₀ (c : Thread nD τ) none Set.univ (m := A3) (r := halfL) (S := A3.view.set) (f := fo) (View.set_slice_subset _ _)) $$ H3
  iintro H3
  iapply (wp_store 𝒱₀ (c : Thread nD τ) none Set.univ (m := A3) (r := halfL) (S := A3.view.set) (f := fo)
    (by rw [View.setOn_univ]; exact View.set_slice_subset _ _)) $$ H3
  iintro H3
  iapply (wp_load_rect 𝒱₀ (c : Thread nD τ) none Set.univ (m := A1) (r := halfR) (S := A1.view.set) (f := fe) (View.set_slice_subset _ _)) $$ H1
  iintro H1
  iapply (wp_load_rect 𝒱₀ (c : Thread nD τ) none Set.univ (m := A3) (r := halfR) (S := A3.view.set) (View.set_slice_subset _ _)) $$ H3
  iintro H3
  iapply (wp_store 𝒱₀ (c : Thread nD τ) none Set.univ (m := A3) (r := halfR) (S := A3.view.set)
    (by rw [View.setOn_univ]; exact View.set_slice_subset _ _)) $$ H3
  iintro H3
  iapply (run_pure (F := F) (c := c) (a := PUnit.unit) (Q := Q) h)
  isplitl [H1]
  · unfold owns; iexists fe; isplitr; · ipureintro; rfl
    iexact H1
  isplitl [H2]
  · unfold owns; iexists ff; isplitr; · ipureintro; rfl
    iexact H2
  isplitl [H3]
  · unfold owns
    iexists _
    isplitr [H3]
    · ipureintro
      exact View.read_writes_eq_canon A3.view fo [⟨halfR, k1_pay2 (View.ld (A2.view.read (Elt F) ff) col1) (View.ld (A1.view.read (Elt F) fe) halfR)⟩,
        ⟨halfL, k1_pay1 (View.ld (A2.view.read (Elt F) ff) col0) (View.ld (A1.view.read (Elt F) fe) halfL)⟩] fun y => halves y _ _
    · iexact H3
  · iexact HR

theorem before1_0 (t : Fin cfg1.N) (d) : (dat1 m c).before 0 t d = eT m c t := by
  unfold Dat.before; rw [if_pos (fetch1_0 t)]; rfl
theorem before1_1 (t : Fin cfg1.N) (d) : (dat1 m c).before 1 t d = fT m c t := by
  unfold Dat.before; rw [if_pos (fetch1_1 t)]; rfl

theorem Φ1 (t : Fin (cfg1.N + 1)) : (dat1 m c).Φ t = iprop(scr1 c ∗ ∃ r, prngReg c r) := rfl
theorem after1_0 (t : Fin cfg1.N) : (dat1 m c).after 0 t = eT m c t := by dsimp only [dat1]
theorem after1_1 (t : Fin cfg1.N) : (dat1 m c).after 1 t = fT m c t := by dsimp only [dat1]
theorem after1_2 (t : Fin cfg1.N) : (dat1 m c).after 2 t = nrm (eT m c t) (fT m c t) := by dsimp only [dat1]

theorem body1 : BodyObligation (dat1 m c) defs₀ 𝒱₀ () Set.univ := fun t => by
  refine BIBase.Entails.trans ?_ (norm_run (F := F) c (i := grid1.coords t) (h1 := hstage1_0 ((cfg1.slots t 0).cast nbuf1_0))
    (h2 := hstage1_1 ((cfg1.slots t 1).cast nbuf1_1)) (h3 := hstage1_2 ((cfg1.slots t 2).cast nbuf1_2)) (eT m c t) (fT m c t)
    (R := iprop((scr1 c ∗ ∃ r, prngReg c r) ∗ (dat1 m c).owesAt () t.castSucc)) ?_)
  · rw [bigSep_W1, Φ1]
    iintro ⟨HΦ, HO, ⟨%d0, H0⟩, ⟨%d1, H1⟩, %d2, H2⟩
    rw [before1_0, before1_1]
    isplitl [H0]; · iexact H0
    isplitl [H1]; · iexact H1
    isplitl [H2]; · iexists _; iexact H2
    isplitl [HΦ]; · iexact HΦ
    iexact HO
  · rw [bigSep_W1, Φ1, after1_0, after1_1, after1_2]
    iintro ⟨H0, H1, H2, HΦ, HO⟩
    isplitl [HΦ]; · iexact HΦ
    isplitl [HO]; · iexact HO
    isplitl [H0]; · iexact H0
    isplitl [H1]; · iexact H1
    iexact H2

theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The buffers the second kernel does not touch. -/
def rest1 : Finset (DevRef τ sig) := {Proc.devRef .tc main_arg0, Proc.devRef .tc main_arg1}

theorem W2_of (r : Ref sig .tc) (h : r ≠ main_v2) : W2 m c (Proc.devRef .tc r) = W1 m c (Proc.devRef .tc r) :=
  Function.update_of_ne (StableHlo.devRef_ne_of_ne h) _ _
theorem W2_arr (w : Fin 3) : (dat1 m c).arrAt w cfg1.N = W2 m c (Proc.devRef .tc (Pipeline.arrRef spec1 w)) := by
  match w with
  | 0 => exact ((dat1 m c).arrAt_in 0 rfl _).trans (W2_of m c main_v1_0 (by decide)).symm
  | 1 => exact ((dat1 m c).arrAt_in 1 rfl _).trans (W2_of m c main_v1_1 (by decide)).symm
  | 2 => exact (Function.update_self (β := fun b : DevRef τ sig => b.ty.Contents (Elt F)) _ _ _).symm

theorem lv_stage1 : ∀ (w : Fin 3) (s : Fin (spec1 w).nbuf), lvS ((spec1 w).sem s) = 0 := by decide +kernel

set_option backward.isDefEq.respectTransparency.types false in
/-- THE SECOND KERNEL'S REGION. -/
def reg1 : Pipeline.RegionSeg (pcfgs (F := F)) adm (pdats m) () defs₀ 𝒱₀ L lv 1 :=
  Pipeline.RegionSeg.ofHeld (pcfgs (F := F)) adm (pdats m) () defs₀ 𝒱₀ L lv 1 (fun _ => 0)
    (fun c => iprop(∃ r, prngReg c r)) (fun c => iprop(∃ r, prngReg c r)) kit1 rfl (fun c => (body1 m c).loose)
    (fun _ _ => rfl) (fun _ => rfl) (fun c w => by show (if _ then fullShare else fullShare) = fullShare; exact ite_self _)
    (fun _ => BIBase.Entails.refl) (fun _ => BIBase.Entails.refl) (fun _ => 0)
    ⟨fun c w s => by rw [L_tc]; exact Finset.mem_singleton_self _, fun c w s => (lv_stage1 w s).le, fun c g i h => absurd h (Nat.lt_irrefl 0)⟩
    (fun c => iprop(StableHlo.held (c : Thread nD τ) rest1 (W1 m c) ∗ Yk c))
    (W1 m) (W2 m) (fun _ _ => rfl) (fun c w => W2_arr m c w)

end Cert.KernelIdeal.Talk

end
-- ==== Proof.Run.lean ====
/-
  The launch: every cell's invariant allocated, the scoped ones dormant, and every right and every credit dealt to the
  device that uses it.
-/
module

public import proofs.«01_k».proof.Proof.Region0
public import proofs.«01_k».proof.Proof.Region1

@[expose] public section

set_option maxRecDepth 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Launch
variable (m : (ℓ : Loc nD τ sig) → Buf (Elt F) ℓ) (ρ : Dev nD → PrngReg)

def barEmb : Dev nD ↪ GSem nD τ sig := ⟨fun c => barCell c, fun _ _ h => congrArg (fun g : GSem nD τ sig => g.1.1) h⟩
def cellEmb : Dev nD × TC ↪ GSem nD τ sig :=
  ⟨fun p => cell p.1 p.2, fun _ _ h => Prod.ext (cell_inj h).1 (cell_inj h).2⟩

abbrev barCells : Finset (GSem nD τ sig) := Finset.univ.map barEmb
abbrev ownCells : Finset (GSem nD τ sig) := Finset.univ.map cellEmb

theorem disjoint_cells : Disjoint barCells ownCells := by
  rw [Finset.disjoint_left]
  intro g h₁ h₂
  obtain ⟨c, -, rfl⟩ := Finset.mem_map.mp h₁
  obtain ⟨p, -, h⟩ := Finset.mem_map.mp h₂
  exact bar_ne_cell c p.1 p.2 h.symm

/-- The duties device `c` pays: a barrier unit in each direction, its transfers' two ends, its local copies. -/
abbrev Duty : Type := Fin 3 ⊕ Tr ⊕ Tr ⊕ Fin 16
def duty (c : Dev nD) : Duty → GSem nD τ sig × ℕ × Fin 3
  | .inl d => (barCell (peerD d c), 0, d)
  | .inr (.inl t) => (cell c (.snd t), 0, 0)
  | .inr (.inr (.inl t)) => (cell (t.peer c) (.rcv t), 0, 0)
  | .inr (.inr (.inr r)) => (cell c (.cp r), 0, 0)

theorem peerD_inj (d : Fin 3) {c c' : Dev nD} (h : peerD d c = peerD d c') : c = c' := by
  rw [← peerD_peerD d c, h, peerD_peerD]

theorem duty_inj : Function.Injective fun p : Dev nD × Duty => duty p.1 p.2 := by
  rintro ⟨c, x⟩ ⟨c', x'⟩ h
  have h1 : (duty c x).1 = (duty c' x').1 := congrArg Prod.fst h
  rcases x with d | t | t | r <;> rcases x' with d' | t' | t' | r'
  case inl.inl =>
    obtain rfl : d = d' := congrArg (fun t : GSem nD τ sig × ℕ × Fin 3 => t.2.2) h
    obtain rfl := peerD_inj d (congrArg (fun g : GSem nD τ sig => g.1.1) h1)
    rfl
  case inr.inl.inr.inl =>
    obtain ⟨rfl, hx⟩ := cell_inj h1
    obtain rfl := TC.snd.inj hx
    rfl
  case inr.inr.inl.inr.inr.inl =>
    obtain ⟨hc, hx⟩ := cell_inj h1
    obtain rfl := TC.rcv.inj hx
    obtain rfl := peerD_inj t.dir hc
    rfl
  case inr.inr.inr.inr.inr.inr =>
    obtain ⟨rfl, hx⟩ := cell_inj h1
    obtain rfl := TC.cp.inj hx
    rfl
  all_goals first
    | exact absurd h1 (bar_ne_cell _ _ _)
    | exact absurd h1.symm (bar_ne_cell _ _ _)
    | exact nomatch (cell_inj h1).2

def talkToks : Finset (GSem nD τ sig × ℕ × Fin 3) := Finset.univ.map ⟨_, duty_inj⟩

theorem toks_eq : bigSep talkToks (fun x => (dutyTok ER x.1 x.2.1 x.2.2 : sProp 𝕄))
    = bigSep Finset.univ fun c : Dev nD => iprop((bigSep Finset.univ fun d : Fin 3 => dutyTok ER (barCell (peerD d c)) 0 d)
      ∗ (bigSep Finset.univ fun t : Tr => dutyTok ER (cell c (.snd t)) 0 0)
      ∗ (bigSep Finset.univ fun t : Tr => dutyTok ER (cell (t.peer c) (.rcv t)) 0 0)
      ∗ bigSep Finset.univ fun r : Fin 16 => dutyTok ER (cell c (.cp r)) 0 0) := by
  unfold talkToks; rw [bigSep_map, bigSep_univ_prod]
  exact bigSep_congr fun c _ => by rw [bigSep_sum, bigSep_sum, bigSep_sum]; rfl

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells ownCells talkToks)

/-- All of the protocol's share of it, parked on device 0 until it is dealt. -/
def G (c : Dev nD) : sProp 𝕄 := if c = 0 then BI.own (ER (launchOf barCells ownCells talkToks)) else iprop(emp)
theorem G_all : bigSep Finset.univ (G (F := F)) = BI.own (ER (launchOf barCells ownCells talkToks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ### The launch credit -/

theorem owed_cell (d c : Dev nD) (t : Tr) : O₀ d (cell c (.rcv t)) () = if d = t.peer c then amtT (.rcv t) else 0 := by
  unfold O₀ owed
  rw [Pi.add_apply, Finsupp.add_apply, Finset.sum_apply, Finset.sum_apply, Finsupp.finset_sum_apply, Finsupp.finset_sum_apply,
    Finset.sum_eq_zero (s := (Finset.univ : Finset (Fin 3))) fun k _ => by rw [tallyAt_ne_cell (bar_ne_cell _ _ _).symm]; rfl, Nat.add_zero,
    Finset.sum_eq_single t (fun t' _ ht => by
      rw [tallyAt_ne_cell fun h => ht (TC.rcv.inj (cell_inj h).2).symm]; rfl) (fun h => absurd (Finset.mem_univ t) h), tallyAt_apply]
  by_cases h : d = t.peer c
  · subst h; rw [if_pos rfl, if_pos ⟨by show cell c _ = cell (peerD t.dir (peerD t.dir c)) _; rw [peerD_peerD], rfl⟩]
  · rw [if_neg h, if_neg fun ⟨h', _⟩ => h (by
      show d = peerD t.dir c
      rw [(cell_inj h').1]; exact (peerD_peerD t.dir d).symm)]

theorem owed_barrier (d c : Dev nD) : O₀ d (barCell c) () = ∑ k : Fin 3, if d = peerD k c then 1 else 0 := by
  unfold O₀ owed
  rw [Pi.add_apply, Finsupp.add_apply, Finset.sum_apply, Finset.sum_apply, Finsupp.finset_sum_apply, Finsupp.finset_sum_apply,
    Finset.sum_eq_zero (s := (Finset.univ : Finset Tr)) fun k _ => by rw [tallyAt_ne_cell (bar_ne_cell _ _ _)]; rfl, Nat.zero_add]
  refine Finset.sum_congr rfl fun k _ => ?_
  rw [tallyAt_apply]
  by_cases h : d = peerD k c
  · subst h; rw [if_pos rfl, if_pos ⟨by rw [peerD_peerD], rfl⟩]
  · rw [if_neg h, if_neg fun ⟨h', _⟩ => h (by
      rw [show c = peerD k d from congrArg (fun g : GSem nD τ sig => g.1.1) h']; exact (peerD_peerD k d).symm)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_barrier d c, Finset.sum_comm]
  refine (Finset.sum_congr rfl fun k _ => ?_).trans (Finset.sum_const 1)
  rw [Finset.sum_ite_eq' Finset.univ (peerD k c) fun _ => 1, if_pos (Finset.mem_univ _)]

theorem launch_cell (c : Dev nD) (t : Tr) :
    tallyOn (cell c (.rcv t)) (launchCredit (Pipeline.owing O₀) 0 (cell c (.rcv t))) = (tallyAt (cell c (.rcv t)) () (amtT (.rcv t)) : CellTallies nD τ sig Unit) := by
  unfold tallyAt; refine congrArg _ (Finsupp.ext fun u => ?_); cases u
  rw [Pipeline.launchCredit_owing, Finsupp.single_eq_same, Finset.sum_congr rfl fun d _ => owed_cell d c t,
    Finset.sum_ite_eq' Finset.univ (t.peer c) fun _ => amtT (.rcv t), if_pos (Finset.mem_univ _)]

def rcvEmb : Tr ↪ TC := ⟨.rcv, fun _ _ h => TC.rcv.inj h⟩
theorem cs_start : cs 0 0 0 = Finset.univ.map rcvEmb := by decide +kernel

def credAt : Unit ⊕ Tr → SemLoc sig := fun x => x.elim (fun _ => .reg barrier0) fun t => .dma (wT (.rcv t))
theorem credAt_inj : Function.Injective credAt := by
  rintro (_ | t) (_ | t') h
  · rfl
  · exact nomatch h
  · exact nomatch h
  · exact congrArg Sum.inr (TC.rcv.inj (wT_inj (SemLoc.dma.inj h)))

theorem creds (c : Dev nD) :
    (Pipeline.launchCred O₀ c : sProp 𝕄) ⊢ iprop(cred (tallyAt (barCell c) () 3) ∗ bigSep (cs 0 0 0) (fun x => cred (tallyAt (cell c x) () (amtT x)))) := by
  unfold Pipeline.launchCred
  rw [bigSep_take credAt credAt_inj (fun _ => Finset.mem_univ _) _ rfl, bigSep_sum, cs_start, bigSep_map]
  have h1 : (bigSep Finset.univ fun u : Unit => cred (tallyOn ((c.tc : Thread nD τ), credAt (.inl u)) (launchCredit (Pipeline.owing O₀) 0 ((c.tc : Thread nD τ), credAt (.inl u)))))
      ⊢ (cred (tallyAt (barCell c) () 3) : sProp 𝕄) := by
    rw [show (Finset.univ : Finset Unit) = {()} from rfl, bigSep_singleton]
    exact Entails.of_eq (congrArg cred (launch_bar c))
  have h2 : (bigSep Finset.univ fun t : Tr => cred (tallyOn ((c.tc : Thread nD τ), credAt (.inr t)) (launchCredit (Pipeline.owing O₀) 0 ((c.tc : Thread nD τ), credAt (.inr t)))))
      ⊢ (bigSep Finset.univ fun t : Tr => cred (tallyAt (cell c (rcvEmb t)) () (amtT (rcvEmb t))) : sProp 𝕄) :=
    bigSep_le fun t _ => Entails.of_eq (congrArg cred (launch_cell c t))
  iintro ⟨⟨H1, H2⟩, -⟩
  isplitl [H1]
  · iapply h1 $$ H1
  · iapply h2 $$ H2

/-! ### What is dealt -/

theorem invs_in (K : GSem nD τ sig → ℕ) :
    (bigSep (barCells ∪ ownCells) fun g => (cellInv ER (talkRd (eV (xV m) (wV m)) (sV (xV m) (wV m))) (K g) g : sProp 𝕄)) ⊢ invs m K := by
  unfold invs bars
  rw [bigSep_union disjoint_cells, bigSep_map, bigSep_map]
  exact sep_comm.1

/-- What stays with device `c`: its barrier position, its rights to open, the tokens of the duties it pays. -/
def linear (c : Dev nD) : sProp 𝕄 :=
  iprop(atPos ER (barCell c) 0 ∅ 0 ∗ (bigSep Finset.univ fun x : TC => openTok ER (cell c x))
    ∗ ((bigSep Finset.univ fun d : Fin 3 => dutyTok ER (barCell (peerD d c)) 0 d)
      ∗ (bigSep Finset.univ fun t : Tr => dutyTok ER (cell c (.snd t)) 0 0)
      ∗ (bigSep Finset.univ fun t : Tr => dutyTok ER (cell (t.peer c) (.rcv t)) 0 0)
      ∗ bigSep Finset.univ fun r : Fin 16 => dutyTok ER (cell c (.cp r)) 0 0))

/-- What of a device's launch holdings is not the protocol's. -/
def bundle (c : Dev nD) : sProp 𝕄 :=
  iprop(StableHlo.held (c : Thread nD τ) (Pipeline.ucRefs τ sig) (V0 m c)
    ∗ (cred (tallyAt (barCell c) () 3) ∗ bigSep (cs 0 0 0) (fun x => cred (tallyAt (cell c x) () (amtT x))))
    ∗ owes (c : Thread nD τ) (O₀ c) ∅ ∗ ∃ r, prngReg c r)

def started (K : GSem nD τ sig → ℕ) : sProp 𝕄 := iprop(invs m K ∗ bigSep barCells fun g => reached ER g 0)
instance started_persistent (K : GSem nD τ sig → ℕ) : BI.Persistent (started m K) := by unfold started; infer_instance
theorem started_at (c : Dev nD) : (bigSep barCells fun g => (reached ER g 0 : sProp 𝕄)) ⊢ reached ER (barCell c) 0 :=
  bigSep_elim (Finset.mem_map_of_mem barEmb (Finset.mem_univ c))

theorem tk_in (K : GSem nD τ sig → ℕ) (c : Dev nD) :
    iprop(started m K ∗ linear c ∗ cred (tallyAt (barCell c) () 3) ∗ bigSep (cs 0 0 0) (fun x => cred (tallyAt (cell c x) () (amtT x)))) ⊢ Tk m c := by
  unfold started linear Tk rights
  rw [bigSep_two (S := (Finset.univ : Finset Tr))]
  iintro ⟨⟨#HI, #HR⟩, ⟨HaB, Ho, Hd, Hs, Hr, Hc⟩, H3, HN⟩
  iexists K
  isplitr; · iexact HI
  isplitr [Ho]
  · isplitl [Hd]
    · iapply (bigSep_pers (Finset.univ : Finset (Fin 3)) (bigSep barCells fun g => (reached ER g 0 : sProp 𝕄)) (fun d => dutyTok ER (barCell (peerD d c)) 0 d) _ fun d _ => by
        iintro ⟨#HR, H⟩
        isplitl [H]; · iexact H
        iapply (started_at (F := F) (peerD d c)); iexact HR)
      isplitr; · iexact HR
      iexact Hd
    isplitl [HaB]; · iexact HaB
    isplitl [Hs Hr]; · isplitl [Hs] <;> iassumption
    isplitl [Hc]; · iexact Hc
    isplitl [H3] <;> iassumption
  · iexact Ho

/-! ### The buffers -/

abbrev five : Finset (DevRef τ sig) :=
  {Proc.devRef .tc main_arg0, Proc.devRef .tc main_arg1, Proc.devRef .tc main_v1_1, Proc.devRef .tc main_v1_0, Proc.devRef .tc main_v2}
theorem ucRefs_eq : Pipeline.ucRefs τ sig = five := by decide
theorem arr0_eq : Pipeline.arrRefs (τ := τ) spec0 = {Proc.devRef .tc main_arg0, Proc.devRef .tc main_arg1, Proc.devRef .tc main_v1_1} := by decide
theorem arr1_eq : Pipeline.arrRefs (τ := τ) spec1 = {Proc.devRef .tc main_v1_0, Proc.devRef .tc main_v1_1, Proc.devRef .tc main_v2} := by decide

theorem held_split {S T U : Finset (DevRef τ sig)} (h : S ∪ T = U) (hd : Disjoint S T) (c : Dev nD) (W : Valuation τ sig (Elt F)) :
    (StableHlo.held (c : Thread nD τ) U W : sProp 𝕄) = iprop(StableHlo.held (c : Thread nD τ) S W ∗ StableHlo.held (c : Thread nD τ) T W) := by
  subst h
  unfold StableHlo.held
  exact bigSep_union hd

theorem split0 (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) rest0' W) := by
  refine held_split ?_ ?_ c W
  · rw [arr0_eq, ucRefs_eq]; decide
  · rw [arr0_eq]; decide
theorem split1 (c : Dev nD) (W : Valuation τ sig (Elt F)) : (StableHlo.held (c : Thread nD τ) (Pipeline.ucRefs τ sig) W : sProp 𝕄)
    = iprop(StableHlo.held (c : Thread nD τ) (Pipeline.arrRefs (τ := τ) spec1) W ∗ StableHlo.held (c : Thread nD τ) rest1 W) := by
  refine held_split ?_ ?_ c W
  · rw [arr1_eq, ucRefs_eq]; decide
  · rw [arr1_eq]; decide

theorem rest1_W2 (c : Dev nD) : (StableHlo.held (c : Thread nD τ) rest1 (W1 m c) : sProp 𝕄) = StableHlo.held (c : Thread nD τ) rest1 (W2 m c) := by
  unfold StableHlo.held
  refine bigSep_same fun b hb => ?_
  rcases Finset.mem_insert.mp hb with rfl | hb
  · rw [W2_of m c main_arg0 (by decide)]
  · obtain rfl := Finset.mem_singleton.mp hb
    rw [W2_of m c main_arg1 (by decide)]

theorem pre0 (c : Dev nD) (K : GSem nD τ sig → ℕ) : iprop(started m K ∗ linear c ∗ bundle m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) rest0' (V0 m c) ∗ emp) ∗ Tk m c ∗ ∃ Wd, owes (c : Thread nD τ) (0 + O₀ c) Wd)
  unfold bundle
  rw [split0, zero_add]
  iintro ⟨#HS, Hl, ⟨H0, H1⟩, ⟨H3, HN⟩, HO, Hp⟩
  isplitl [H0]; · iexact H0
  isplitl [Hp]; · iexact Hp
  isplitl [H1]
  · isplitl [H1]; · iexact H1
    iempintro
  isplitr [HO]
  · iapply (tk_in m K c)
    isplitr; · iexact HS
    isplitl [Hl]; · iexact Hl
    isplitl [H3] <;> iassumption
  · iexists ∅; iexact HO

theorem between (c : Dev nD) : (reg0 m).post c ⊢ (reg1 m).pre c := by
  show iprop(StableHlo.held (c.tc : Thread nD τ) (Pipeline.arrRefs (τ := τ) spec0) (W1 m c) ∗ (∃ r, prngReg c r)
      ∗ (StableHlo.held (c.tc : Thread nD τ) rest0' (W1 m c) ∗ emp) ∗ Yk c ∗ ∃ Wd, owes (c : Thread nD τ) (0 : CellTallies nD τ sig Unit) Wd)
    ⊢ iprop(StableHlo.held (c.tc : Thread nD τ) (Pipeline.arrRefs (τ := τ) spec1) (W1 m c) ∗ (∃ r, prngReg c r)
      ∗ (StableHlo.held (c.tc : Thread nD τ) rest1 (W1 m c) ∗ Yk c) ∗ ∃ Wd, owes (c : Thread nD τ) (0 : CellTallies nD τ sig Unit) Wd)
  iintro ⟨H0, Hp, ⟨H1, -⟩, HY, HO⟩
  ihave H := (Entails.of_eq ((split0 c (W1 m c)).symm.trans (split1 c (W1 m c)))) $$ [H0 H1]
  · isplitl [H0] <;> iassumption
  icases H with ⟨Ha, Hr⟩
  isplitl [Ha]; · iexact Ha
  isplitl [Hp]; · iexact Hp
  isplitl [Hr HY]; · isplitl [Hr] <;> iassumption
  iexact HO

abbrev Tₙ (c : Dev nD) : sProp 𝕄 := iprop(StableHlo.held (c : Thread nD τ) (Pipeline.ucRefs τ sig) (W2 m c) ∗ semVal (barCell c) 0)

theorem post1 (c : Dev nD) : (reg1 m).post c ⊢ iprop(Tₙ m c ∗ ∃ W, owes (c : Thread nD τ) (0 : CellTallies nD τ sig Unit) W) := by
  show iprop(StableHlo.held (c.tc : Thread nD τ) (Pipeline.arrRefs (τ := τ) spec1) (W2 m c) ∗ (∃ r, prngReg c r)
      ∗ (StableHlo.held (c.tc : Thread nD τ) rest1 (W1 m c) ∗ Yk c) ∗ ∃ Wd, owes (c : Thread nD τ) (0 : CellTallies nD τ sig Unit) Wd) ⊢ _
  unfold Tₙ Yk
  rw [rest1_W2, split1]
  iintro ⟨H0, -, ⟨H1, HY⟩, HO⟩
  isplitr [HO]
  · isplitr [HY]
    · isplitl [H0] <;> iassumption
    · iexact HY
  · iexact HO

/-! ### The start, on all devices at once -/

theorem sems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

abbrev given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem given_sort (c : Dev nD) : given m ρ c ⊢ iprop(bundle m c ∗ semVal (barCell c) 0 ∗ G c) := by
  unfold given
  rw [show unscopedBufs c (fun b => m ((c : Thread nD τ).loc b)) = StableHlo.held (c : Thread nD τ) (Pipeline.ucRefs τ sig) (V0 m c)
    from Pipeline.unscopedBufs_held c (V0 m c), sems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init : iprop((bigSep Finset.univ (given m ρ)) ∗ levAts L lv) ⊢ (|={Set.univ}=> bigSep Finset.univ (reg0 m).pre : sProp 𝕄) := by
  have hsort : bigSep Finset.univ (given m ρ) ⊢ iprop(bigSep Finset.univ (bundle m) ∗ bigSep barCells (fun g => semVal g 0)
      ∗ BI.own (ER (launchOf barCells ownCells talkToks))) := by
    refine (bigSep_le fun c _ => given_sort m ρ c).trans (Entails.of_eq ?_)
    rw [bigSep_two, bigSep_two, G_all, bigSep_map]
    rfl
  have hdeal : iprop(bigSep barCells (fun g => atPos ER g 0 ∅ 0) ∗ bigSep ownCells (fun g => openTok ER g)
      ∗ bigSep talkToks (fun x => dutyTok ER x.1 x.2.1 x.2.2)) ⊢ (bigSep Finset.univ fun c : Dev nD => linear c : sProp 𝕄) := by
    refine Entails.of_eq ?_
    unfold linear
    rw [bigSep_two, bigSep_two, toks_eq, bigSep_map, bigSep_map, bigSep_univ_prod]
    rfl
  iintro ⟨H, -⟩
  ihave H' := hsort $$ H
  icases H' with ⟨HB, Hv, Hu⟩
  imod (Rounds.fund_launch ER (talkRd (eV (xV m) (wV m)) (sV (xV m) (wV m))) disjoint_cells (fun g _ h => h) talkToks) $$ [Hv Hu]
    with ⟨%κ, -, #Hinv, #Hr, Hat, Hopen, Htok⟩
  · isplitl [Hv] <;> iassumption
  ihave Hl := hdeal $$ [Hat Hopen Htok]
  · isplitl [Hat]; · iexact Hat
    isplitl [Hopen] <;> iassumption
  imodintro
  iapply (bigSep_pers (Finset.univ : Finset (Dev nD)) (started m κ) (fun c => iprop(linear c ∗ bundle m c)) _ fun c _ => pre0 m c κ)
  isplitr
  · unfold started
    isplitr
    · iapply (invs_in m κ); iexact Hinv
    · iexact Hr
  rw [bigSep_two]
  isplitl [Hl] <;> iassumption

/-! ## The run -/

def segs : List (Pipeline.Seg (pcfgs (F := F)) adm (pdats m) () defs₀ 𝒱₀ L lv) := [.region (reg0 m), .region (reg1 m)]

theorem unscoped_eq : ∀ sm : SemLoc sig, sm.isScoped .tc = false → sm = .reg barrier0 := by decide

theorem mem_uc (r : Ref sig .tc) (h : ¬ (Proc.devRef .tc r : DevRef τ sig).isScoped) : Proc.devRef .tc r ∈ Pipeline.ucRefs τ sig :=
  Finset.mem_filter.mpr ⟨StableHlo.devRef_mem_tcRefs r, h⟩

set_option backward.isDefEq.respectTransparency.types false in
/-- THE RUN: every execution ends, with every buffer of a device at `W2` and every counter at zero. -/
theorem run_main : θ_run defs (onTc (τ := τ) (main (F := F))) ⟨m, fun _ => 0, ρ⟩ (fun r =>
    (∀ c : Dev nD, ∀ b ∈ Pipeline.ucRefs τ sig, r.2.mem (c, b) = W2 m c b) ∧ r.2.sem = fun _ => 0) :=
  Pipeline.θ_run_regions_kit_sems (pcfgs (F := F)) adm (pdats m) () cellOf_inj EP defs₀ 𝒱₀ L lv m ρ main (segs m)
    (fun c Q => by
      rewrite [main_chain c, Pipeline.Seg.run_eq_chain, show (segs m).map Pipeline.Seg.prog = [
          Prog.lift (.customCall (Pipeline.entry 0) ()),
          Prog.lift (.customCall (Pipeline.entry 1) ()) ] from rfl]
      exact .rfl)
    (by simp only [segs, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := (reg0 m).pre) (Tₙ := Tₙ m)
    (hch := ⟨fun c => .rfl, fun c => between m c, fun c => post1 m c⟩)
    (hinit := init m ρ)
    (QY := fun c s => (∀ b ∈ Pipeline.ucRefs τ sig, s.mem (c, b) = W2 m c b) ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        exact ⟨h, by simpa using hb⟩
      · iexact HSI)
    (hQ := fun s h hs => ⟨fun c => (h c).1, sem_eq_zero hs fun c sm hsm => by
      obtain rfl := unscoped_eq sm hsm
      exact (h c).2⟩)

end Launch

end Cert.KernelIdeal.Talk

end
-- ==== Proof.Frames.lean ====
/-
  The frame claims of the kernel, as printed and idealized, from the one run; and the reference's.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 4096

noncomputable section

namespace Cert.Proof

open Idealize.ShloMosaic Idealize.ShloMosaic.TcCoe Idealize.SL.Sem
open Cert.KernelIdeal Cert.KernelIdeal.Gen Cert.KernelIdeal.Talk

section Run
variable {F : FTy → Type} [FloatOps F] (m : (ℓ : Loc nD τ sig) → Buf (Elt F) ℓ) (ρ : Dev nD → PrngReg)

/-- What the run leaves of a device's result and arguments, and that the counters end at zero. -/
theorem run_args : θ_run (Cert.KernelIdeal.defs (F := F)) (onTc (τ := τ) (Cert.KernelIdeal.main (F := F))) ⟨m, fun _ => 0, ρ⟩ (fun r =>
    (∀ c : Dev nD, r.2.mem ((c.tc : Thread nD τ).loc main_v2) = (dat1 m c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c =>
      ⟨(h.1 c _ (mem_uc main_v2 (by decide))).trans (W2_arr m c 2).symm,
        (h.1 c _ (mem_uc main_arg0 (by decide))).trans ((W2_of m c main_arg0 (by decide)).trans (W1_of m c main_arg0 (by decide) (by decide))),
        (h.1 c _ (mem_uc main_arg1 (by decide))).trans ((W2_of m c main_arg1 (by decide)).trans (W1_of m c main_arg1 (by decide) (by decide)))⟩,
      h.2⟩)
    (run_main m ρ)

theorem frame_any : θ_run (Cert.KernelIdeal.defs (F := F)) (onTc (τ := τ) (Cert.KernelIdeal.main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => (h.1 c).2, h.2⟩) (run_args m ρ)

end Run

theorem frame_ideal : Cert.quiescent_KernelIdeal := fun m ρ _ => frame_any (F := Ideal) m ρ

/-! The printed kernel is the idealized one's text, read at bits. -/

set_option backward.isDefEq.respectTransparency.types false in
set_option maxRecDepth 65536 in
theorem bodies_same : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) (funext fun l => funext fun a => ?_)
  match l, a with
  | 0, (_, _) => rfl
  | 1, (_, _) => rfl

set_option backward.isDefEq.respectTransparency.types false in
theorem defs_same : Cert.Kernel.defs (F := Bits) = Cert.KernelIdeal.defs (F := Bits) :=
  congrArg (Pipeline.defs (Cert.Kernel.pcfgs (F := Bits))) bodies_same

set_option backward.isDefEq.respectTransparency.types false in
theorem frame_kernel : Cert.quiescent_Kernel := fun m ρ _ => by
  rw [defs_same]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Soft.lean ====
/-
  Exponentials over their sum, among the extended reals: at finite numbers, whatever finite number is taken from every
  exponent, and whether the sum is taken whole or in two halves scaled to a common exponent, the quotient is one real number.
-/
module

public import Idealize.ShloMosaic.PureOps.Ideal.Laws
public import Idealize.ShloMosaic.Lib.IdealHost

@[expose] public section

noncomputable section

namespace Cert.Soft

open Idealize.ShloMosaic

theorem coe_sum {ι : Type} (s : Finset ι) (f : ι → ℝ) : ∑ k ∈ s, ((f k : ℝ) : EReal) = ((∑ k ∈ s, f k : ℝ) : EReal) := by
  classical
  induction s using Finset.induction with
  | empty => simp
  | insert a s h ih => rw [Finset.sum_insert h, Finset.sum_insert h, ih, EReal.coe_add]

/-- The maximum of finitely many finite numbers, at least one, is finite. -/
theorem fold_max_coe {ι : Type} (s : Finset ι) (f : ι → ℝ) : s = ∅ ∨ ∃ r : ℝ, s.fold max (⊥ : EReal) (fun k => ((f k : ℝ) : EReal)) = (r : EReal) := by
  classical
  induction s using Finset.induction with
  | empty => exact .inl rfl
  | insert a s h ih =>
    right
    rw [Finset.fold_insert h]
    rcases ih with rfl | ⟨r, hr⟩
    · exact ⟨f a, by rw [Finset.fold_empty]; exact max_bot_right _⟩
    · exact ⟨max (f a) r, by rw [hr]; exact (EReal.coe_strictMono.monotone.map_max).symm⟩
theorem max_coe {ι : Type} [Fintype ι] [Nonempty ι] (f : ι → ℝ) :
    ∃ r : ℝ, Finset.univ.fold max (⊥ : EReal) (fun k => ((f k : ℝ) : EReal)) = (r : EReal) :=
  (fold_max_coe Finset.univ f).resolve_left Finset.univ_nonempty.ne_empty

theorem exp_sub (a b : ℝ) : Ideal.exp ((a : EReal) - (b : EReal)) = ((Real.exp a * (Real.exp b)⁻¹ : ℝ) : EReal) := by
  rw [← EReal.coe_sub, Ideal.exp_coe, Real.exp_sub, div_eq_mul_inv]

theorem sum_exp_sub {ι : Type} [Fintype ι] (f : ι → ℝ) (b : ℝ) :
    ∑ k, Ideal.exp ((f k : EReal) - (b : EReal)) = (((∑ k, Real.exp (f k)) * (Real.exp b)⁻¹ : ℝ) : EReal) := by
  rw [Finset.sum_mul, ← coe_sum]
  exact Finset.sum_congr rfl fun k _ => exp_sub _ _

theorem div_coe_coe (x y : ℝ) (h : y ≠ 0) : Ideal.div (x : EReal) (y : EReal) = ((x / y : ℝ) : EReal) := by
  rw [Ideal.div_coe h, ← EReal.coe_mul, one_div, div_eq_mul_inv]

theorem sum_exp_pos {ι : Type} [Fintype ι] [Nonempty ι] (f : ι → ℝ) : 0 < ∑ k, Real.exp (f k) :=
  Finset.sum_pos (fun k _ => Real.exp_pos _) Finset.univ_nonempty

/-- The whole sum: any finite number taken from every exponent leaves the quotient. -/
theorem whole {ι : Type} [Fintype ι] [Nonempty ι] (f : ι → ℝ) (l b : ℝ) :
    Ideal.div (Ideal.exp ((l : EReal) - (b : EReal))) (0 + ∑ k, Ideal.exp ((f k : EReal) - (b : EReal)))
      = ((Real.exp l / ∑ k, Real.exp (f k) : ℝ) : EReal) := by
  have hs := sum_exp_pos f
  have hb := Real.exp_pos b
  rw [zero_add, sum_exp_sub, exp_sub, div_coe_coe _ _ (by positivity)]
  congr 1
  field_simp

/-- The sum in two halves, each with a finite number taken from its exponents and then scaled to the larger of the two. -/
theorem halves {ι : Type} [Fintype ι] [Nonempty ι] (f g : ι → ℝ) (l a b : ℝ) :
    Ideal.exp ((l : EReal) - (a : EReal))
        * Ideal.div (Ideal.exp ((a : EReal) - max (a : EReal) (b : EReal)))
            ((∑ k, Ideal.exp ((f k : EReal) - (a : EReal))) * Ideal.exp ((a : EReal) - max (a : EReal) (b : EReal))
              + (∑ k, Ideal.exp ((g k : EReal) - (b : EReal))) * Ideal.exp ((b : EReal) - max (a : EReal) (b : EReal)))
      = ((Real.exp l / (∑ k, Real.exp (f k) + ∑ k, Real.exp (g k)) : ℝ) : EReal) := by
  have hf := sum_exp_pos f
  have hg := sum_exp_pos g
  have ha := Real.exp_pos a
  have hb := Real.exp_pos b
  rw [show max (a : EReal) (b : EReal) = ((max a b : ℝ) : EReal) from (EReal.coe_strictMono.monotone.map_max).symm]
  have hm := Real.exp_pos (max a b)
  rw [sum_exp_sub, sum_exp_sub, exp_sub, exp_sub, exp_sub, ← EReal.coe_mul, ← EReal.coe_mul, ← EReal.coe_add,
    div_coe_coe _ _ (by positivity), ← EReal.coe_mul]
  congr 1
  field_simp

/-- The same with the scaled half named second. -/
theorem halves' {ι : Type} [Fintype ι] [Nonempty ι] (f g : ι → ℝ) (l a b : ℝ) :
    Ideal.exp ((l : EReal) - (b : EReal))
        * Ideal.div (Ideal.exp ((b : EReal) - max (a : EReal) (b : EReal)))
            ((∑ k, Ideal.exp ((f k : EReal) - (a : EReal))) * Ideal.exp ((a : EReal) - max (a : EReal) (b : EReal))
              + (∑ k, Ideal.exp ((g k : EReal) - (b : EReal))) * Ideal.exp ((b : EReal) - max (a : EReal) (b : EReal)))
      = ((Real.exp l / (∑ k, Real.exp (f k) + ∑ k, Real.exp (g k)) : ℝ) : EReal) := by
  rw [max_comm, add_comm (_ * _) (_ * _), halves g f l b a, add_comm]

end Cert.Soft

end
-- ==== Proof.Local.lean ====
/-
  The talking kernel's computations at the extended reals, read entry by entry: a row group's products, each row's
  maximum, exponentials and sum, and the scaling factors from the two devices' statistics.
-/
module

public import proofs.«01_k».proof.Proof.Data
public import proofs.«01_k».proof.Proof.Soft
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 4096

noncomputable section

namespace Cert.KernelIdeal.Talk

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.ValueIdx

theorem bits_bot : (FloatOps.ofBits (F := Ideal) .f32 0xFF800000#32 : EReal) = ⊥ := by
  show Ideal.ofBits .f32 0xFF800000#32 = ⊥
  simp [Ideal.ofBits, Ideal.ieee]

/-- A row of products, its maximum, the exponentials below it and their sum. -/
def dotR {R N : ℕ} (x : (⟨2, ![R, 1024]⟩ : Shape).Idx → EReal) (w : (⟨2, ![1024, N]⟩ : Shape).Idx → EReal) (i : Fin R) (j : Fin N) : EReal :=
  ∑ k : Fin 1024, x (ix2 i k) * w (ix2 k j)
def maxR {R N : ℕ} (x : (⟨2, ![R, 1024]⟩ : Shape).Idx → EReal) (w : (⟨2, ![1024, N]⟩ : Shape).Idx → EReal) (i : Fin R) : EReal :=
  Finset.univ.fold max ⊥ fun j => dotR x w i j
def expR {R N : ℕ} (x : (⟨2, ![R, 1024]⟩ : Shape).Idx → EReal) (w : (⟨2, ![1024, N]⟩ : Shape).Idx → EReal) (i : Fin R) (j : Fin N) : EReal :=
  Ideal.exp (dotR x w i j - maxR x w i)
def sumR {R N : ℕ} (x : (⟨2, ![R, 1024]⟩ : Shape).Idx → EReal) (w : (⟨2, ![1024, N]⟩ : Shape).Idx → EReal) (i : Fin R) : EReal :=
  ∑ j : Fin N, expR x w i j

section Group
variable (x : FVec Ideal S128x1024 .f32) (w : FVec Ideal S1024x8192 .f32)

theorem pay1_at (a : Fin 128) (b : Fin 8192) : k0_pay1 (F := Ideal) x w (ix2 a b) = dotR x w a b := by
  unfold k0_pay1
  refine (Ideal.matmul_plain_apply (M := 128) (K := 1024) (N := 8192) none (shapeCast S128x1024 x shapeCasts_S128x1024_S128x1024)
    (shapeCast S1024x8192 w shapeCasts_S1024x8192_S1024x8192) (constant S128x8192 .f32 0x00000000#32) a b).trans ?_
  rw [shapeCast_self, shapeCast_self]
  show Ideal.ofBits .f32 0x00000000#32 + _ = _
  rw [Ideal.ofBits_zero_f32, zero_add]
  rfl

theorem lift_row (h : S128x8192.Reduces [1] S128) (a : Fin 128) (b : Fin 8192) : h.lift (ix1 a) b = ix2 a b := by
  funext d; apply Fin.ext
  match d with
  | ⟨0, _⟩ => rfl
  | ⟨1, _⟩ => rfl

theorem pay2_at (a : Fin 128) (u : Fin 1) : k0_pay2 (F := Ideal) x w (ix2 a u) = maxR x w a := by
  unfold k0_pay2
  refine (shapeCast_a_a1_apply _ shapeCasts_S128_S128x1 a u).trans ?_
  refine (Ideal.multiReduction_maximumf_single _ _ reduces_S128x8192_S128 _ _ _).trans ?_
  rw [bits_bot]
  unfold maxR
  refine Finset.fold_congr fun b _ => ?_
  exact (congrArg (k0_pay1 (F := Ideal) x w) (lift_row _ a b)).trans (pay1_at x w a b)

theorem col_bcast {α : Type} (v : S128x1.Idx → α) (a : Fin 128) (b : Fin 8192) :
    broadcastTo S128x8192 v broadcasts_S128x1_S128x8192 (ix2 a b) = v (ix2 a 0) :=
  broadcastTo_apply v broadcasts_S128x1_S128x8192 _ _ fun d => match d with
    | ⟨0, _⟩ => rfl
    | ⟨1, _⟩ => rfl

theorem pay3_at (a : Fin 128) (b : Fin 8192) : k0_pay3 (F := Ideal) x w (ix2 a b) = expR x w a b := by
  have e : k0_pay3 (F := Ideal) x w (ix2 a b)
      = Ideal.exp (k0_pay1 (F := Ideal) x w (ix2 a b) - broadcastTo S128x8192 (k0_pay2 (F := Ideal) x w) broadcasts_S128x1_S128x8192 (ix2 a b)) := rfl
  exact e.trans (congrArg Ideal.exp (congrArg₂ (fun u v : EReal => u - v) (pay1_at x w a b) ((col_bcast (k0_pay2 (F := Ideal) x w) a b).trans (pay2_at x w a 0))))

theorem pay4_at (a : Fin 128) (u : Fin 1) : k0_pay4 (F := Ideal) x w (ix2 a u) = sumR x w a := by
  unfold k0_pay4
  refine (shapeCast_a_a1_apply _ shapeCasts_S128_S128x1 a u).trans ?_
  refine (Ideal.multiReduction_add_single _ _ reduces_S128x8192_S128 _ _ _).trans ?_
  unfold sumR
  refine Finset.sum_congr rfl fun b _ => ?_
  exact (congrArg (k0_pay3 (F := Ideal) x w) (lift_row _ a b)).trans (pay3_at x w a b)

theorem pay5_at (a : Fin 128) (b : Fin 8192) : k0_pay5 (F := Ideal) x w (ix2 a b) = expR x w a b := pay3_at x w a b

/-- 32 rows of a group, as a block of exponentials. -/
theorem rows_at {o : ℕ} (v : S128x8192.Idx → EReal) (hs : S128x8192.Slices ![o, 0] S32x8192) (hc : S32x8192.ShapeCasts S1x32x8192)
    (u : Fin 1) (i : Fin 32) (j : Fin 8192) (ho : o + i.val < 128) :
    shapeCast S1x32x8192 (extractStridedSlice S32x8192 ![o, 0] v hs) hc (ix3 u i j) = v (ix2 ⟨o + i.val, ho⟩ j) :=
  (shapeCast_ab_1ab_apply _ hc u i j).trans (slice2_axis0_eq o v hs i j)

/-- 32 rows of a group's statistics: the maximum in the left half, the sum in the right half. -/
theorem stat_left {o : ℕ} (v v' : S128x1.Idx → EReal) (hs : S128x1.Slices ![o, 0] S32x1) (h1 : S32x1.ShapeCasts S32x1) (hb : S32x1.Broadcasts S32x128)
    (hk : Shape.Concatenates [S32x128, S32x128] S32x256 1) (hc : S32x256.ShapeCasts S1x32x256) (u : Fin 1) (i : Fin 32) (ho : o + i.val < 128) :
    shapeCast S1x32x256 (concatenate S32x256 1 [⟨S32x128, broadcastTo S32x128 (shapeCast S32x1 (extractStridedSlice S32x1 ![o, 0] v hs) h1) hb⟩,
      ⟨S32x128, broadcastTo S32x128 (shapeCast S32x1 (extractStridedSlice S32x1 ![o, 0] v' hs) h1) hb⟩] hk) hc (ix3 u i 0)
      = v (ix2 ⟨o + i.val, ho⟩ 0) := by
  refine (shapeCast_ab_1ab_apply _ hc u i 0).trans ?_
  refine (concatenate_pair_apply_left (s₁ := S32x128) (s₂ := S32x128) 1 _ _ hk (ix2 i 0) rfl (ix2 i (0 : Fin 128)) fun d => match d with | ⟨0, _⟩ => rfl | ⟨1, _⟩ => rfl).trans ?_
  refine (broadcastTo_apply _ hb (ix2 i (0 : Fin 128)) (ix2 i (0 : Fin 1)) fun d => match d with | ⟨0, _⟩ => rfl | ⟨1, _⟩ => rfl).trans ?_
  rw [shapeCast_self]
  exact slice2_axis0_eq o v hs i 0
theorem stat_right {o : ℕ} (v v' : S128x1.Idx → EReal) (hs : S128x1.Slices ![o, 0] S32x1) (h1 : S32x1.ShapeCasts S32x1) (hb : S32x1.Broadcasts S32x128)
    (hk : Shape.Concatenates [S32x128, S32x128] S32x256 1) (hc : S32x256.ShapeCasts S1x32x256) (u : Fin 1) (i : Fin 32) (ho : o + i.val < 128) :
    shapeCast S1x32x256 (concatenate S32x256 1 [⟨S32x128, broadcastTo S32x128 (shapeCast S32x1 (extractStridedSlice S32x1 ![o, 0] v hs) h1) hb⟩,
      ⟨S32x128, broadcastTo S32x128 (shapeCast S32x1 (extractStridedSlice S32x1 ![o, 0] v' hs) h1) hb⟩] hk) hc (ix3 u i 128)
      = v' (ix2 ⟨o + i.val, ho⟩ 0) := by
  refine (shapeCast_ab_1ab_apply _ hc u i 128).trans ?_
  refine (concatenate_pair_apply_right (s₁ := S32x128) (s₂ := S32x128) 1 _ _ hk (ix2 i 128) rfl rfl (ix2 i (0 : Fin 128))
    (fun d => match d with | ⟨0, _⟩ => fun _ => rfl | ⟨1, _⟩ => fun h => absurd rfl h) rfl).trans ?_
  refine (broadcastTo_apply _ hb (ix2 i (0 : Fin 128)) (ix2 i (0 : Fin 1)) fun d => match d with | ⟨0, _⟩ => rfl | ⟨1, _⟩ => rfl).trans ?_
  rw [shapeCast_self]
  exact slice2_axis0_eq o v' hs i 0
end Group

section Blocks
variable (xV : Dev nD → Fin 4 → FVec Ideal S128x1024 .f32) (wV : Dev nD → FVec Ideal S1024x8192 .f32)

theorem four (n : Fin 4) : n = 0 ∨ n = 1 ∨ n = 2 ∨ n = 3 := by revert n; decide

/-- Row `i` of block `r` within its group of rows. -/
def inG (r : Fin 16) (i : Fin 32) : Fin 128 := ⟨32 * (r.val % 4) + i.val, by omega⟩
def grp (r : Fin 16) : Fin 4 := ⟨r.val / 4, by omega⟩

theorem eV_at (c : Dev nD) (r : Fin 16) (i : Fin 32) (j : Fin 8192) :
    eV xV wV c r (ix3 0 i j) = expR (xV c (grp r)) (wV c) (inG r i) j := by
  have key : ∀ (o : ℕ) (ho : o + i.val < 128) (e : o = 32 * (r.val % 4)),
      k0_pay5 (F := Ideal) (xV c (grp r)) (wV c) (ix2 ⟨o + i.val, ho⟩ j) = expR (xV c (grp r)) (wV c) (inG r i) j := fun o ho e => by
    subst e; exact pay5_at _ _ _ j
  unfold eV
  rcases four ⟨r.val % 4, by omega⟩ with h | h | h | h
  all_goals
    have hv := congrArg Fin.val h
    rw [h]
    refine Eq.trans (rows_at _ _ _ 0 i j (by omega)) (key _ (by omega) ?_)
    rw [show r.val % 4 = _ from hv]
    rfl

theorem sV_left (c : Dev nD) (r : Fin 16) (i : Fin 32) :
    sV xV wV c r (ix3 0 i 0) = maxR (xV c (grp r)) (wV c) (inG r i) := by
  have key : ∀ (o : ℕ) (ho : o + i.val < 128) (e : o = 32 * (r.val % 4)),
      k0_pay2 (F := Ideal) (xV c (grp r)) (wV c) (ix2 ⟨o + i.val, ho⟩ 0) = maxR (xV c (grp r)) (wV c) (inG r i) := fun o ho e => by
    subst e; exact pay2_at _ _ _ 0
  unfold sV
  rcases four ⟨r.val % 4, by omega⟩ with h | h | h | h
  all_goals
    have hv := congrArg Fin.val h
    rw [h]
    refine Eq.trans (stat_left _ _ _ _ _ _ _ 0 i (by omega)) (key _ (by omega) ?_)
    rw [show r.val % 4 = _ from hv]
    rfl

theorem sV_right (c : Dev nD) (r : Fin 16) (i : Fin 32) :
    sV xV wV c r (ix3 0 i 128) = sumR (xV c (grp r)) (wV c) (inG r i) := by
  have key : ∀ (o : ℕ) (ho : o + i.val < 128) (e : o = 32 * (r.val % 4)),
      k0_pay4 (F := Ideal) (xV c (grp r)) (wV c) (ix2 ⟨o + i.val, ho⟩ 0) = sumR (xV c (grp r)) (wV c) (inG r i) := fun o ho e => by
    subst e; exact pay4_at _ _ _ 0
  unfold sV
  rcases four ⟨r.val % 4, by omega⟩ with h | h | h | h
  all_goals
    have hv := congrArg Fin.val h
    rw [h]
    refine Eq.trans (stat_right _ _ _ _ _ _ _ 0 i (by omega)) (key _ (by omega) ?_)
    rw [show r.val % 4 = _ from hv]
    rfl
end Blocks

end Cert.KernelIdeal.Talk

end
-- ==== Proof.Factor.lean ====
/-
  The scaling factors at the extended reals: a row's factor for either column half, from both halves' maxima and sums.
-/
module

public import proofs.«01_k».proof.Proof.Local

@[expose] public section

set_option maxRecDepth 4096

noncomputable section

namespace Cert.KernelIdeal.Talk

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.ValueIdx

/-- The sum over both halves, each half's sum scaled from its own maximum to the larger one. -/
def bothS (a s b t : EReal) : EReal := s * Ideal.exp (a - max a b) + t * Ideal.exp (b - max a b)
/-- The factor of the half with maximum `a`, and of the one with maximum `b`. -/
def facM (a s b t : EReal) : EReal := Ideal.div (Ideal.exp (a - max a b)) (bothS a s b t)
def facP (a s b t : EReal) : EReal := Ideal.div (Ideal.exp (b - max a b)) (bothS a s b t)

def blk (I : Fin 512) : Fin 16 := ⟨I.val / 32, by omega⟩
def row (I : Fin 512) : Fin 32 := ⟨I.val % 32, by omega⟩

section Pay
variable (v5 : BitVec 32) (A S B T : FVec Ideal S16x32x1 .f32)

def colM : FVec Ideal S16x32x1 .f32 := fun i => facM (A i) (S i) (B i) (T i)
def colP : FVec Ideal S16x32x1 .f32 := fun i => facP (A i) (S i) (B i) (T i)

theorem pay53_eq : k0_pay53 (F := Ideal) v5 A S B T = shapeCast S512x256 (concatenate S16x32x256 2
      [⟨S16x32x128, broadcastTo S16x32x128 (shapeCast S16x32x1 (Scalar.select (Scalar.cmpi .eq v5 0#32) (colM A S B T) (colP A S B T)) shapeCasts_S16x32x1_S16x32x1) broadcasts_S16x32x1_S16x32x128⟩,
       ⟨S16x32x128, broadcastTo S16x32x128 (shapeCast S16x32x1 (Scalar.select (Scalar.cmpi .eq v5 0#32) (colP A S B T) (colM A S B T)) shapeCasts_S16x32x1_S16x32x1) broadcasts_S16x32x1_S16x32x128⟩]
      concatenates_S16x32x128_S16x32x128_S16x32x256_d2) shapeCasts_S16x32x256_S512x256 := rfl

theorem fold_rows {α : Type} (v : S16x32x256.Idx → α) (h : S16x32x256.ShapeCasts S512x256) (I : Fin 512) (j : Fin 256) :
    shapeCast S512x256 v h (ix2 I j) = v (ix3 (blk I) (row I) j) :=
  shapeCast_apply v h _ _ (by
    rw [Shape.rowMajor_val_three, Shape.rowMajor_val_two]
    show (I.val / 32 * 32 + I.val % 32) * 256 + j.val = I.val * 256 + j.val
    omega)

theorem spread {α : Type} (v : S16x32x1.Idx → α) (r : Fin 16) (i : Fin 32) :
    broadcastTo S16x32x128 (shapeCast S16x32x1 v shapeCasts_S16x32x1_S16x32x1) broadcasts_S16x32x1_S16x32x128 (ix3 r i (0 : Fin 128)) = v (ix3 r i 0) := by
  rw [shapeCast_self]
  exact broadcastTo_apply v _ _ _ fun d => match d with | ⟨0, _⟩ => rfl | ⟨1, _⟩ => rfl | ⟨2, _⟩ => rfl

theorem pay53_left (I : Fin 512) : k0_pay53 (F := Ideal) v5 A S B T (ix2 I 0)
    = Scalar.select (Scalar.cmpi .eq v5 0#32) (colM A S B T) (colP A S B T) (ix3 (blk I) (row I) 0) := by
  rw [pay53_eq, fold_rows]
  refine (concatenate_pair_apply_left (t := S16x32x256) (s₁ := S16x32x128) (s₂ := S16x32x128) 2 _ _ _ (ix3 (blk I) (row I) (0 : Fin 256)) rfl (ix3 (blk I) (row I) (0 : Fin 128))
    fun d => match d with | ⟨0, _⟩ => rfl | ⟨1, _⟩ => rfl | ⟨2, _⟩ => rfl).trans ?_
  exact spread _ _ _
theorem pay53_right (I : Fin 512) : k0_pay53 (F := Ideal) v5 A S B T (ix2 I 128)
    = Scalar.select (Scalar.cmpi .eq v5 0#32) (colP A S B T) (colM A S B T) (ix3 (blk I) (row I) 0) := by
  rw [pay53_eq, fold_rows]
  refine (concatenate_pair_apply_right (t := S16x32x256) (s₁ := S16x32x128) (s₂ := S16x32x128) 2 _ _ _ (ix3 (blk I) (row I) (128 : Fin 256)) rfl rfl (ix3 (blk I) (row I) (0 : Fin 128))
    (fun d => match d with | ⟨0, _⟩ => fun _ => rfl | ⟨1, _⟩ => fun _ => rfl | ⟨2, _⟩ => fun h => absurd rfl h) rfl).trans ?_
  exact spread _ _ _
end Pay

section Fac
variable (xV : Dev nD → Fin 4 → FVec Ideal S128x1024 .f32) (wV : Dev nD → FVec Ideal S1024x8192 .f32)

/-- Row `I`'s maximum and sum over device `c`'s column half. -/
def mxD (c : Dev nD) (I : Fin 512) : EReal := maxR (xV c (grp (blk I))) (wV c) (inG (blk I) (row I))
def smD (c : Dev nD) (I : Fin 512) : EReal := sumR (xV c (grp (blk I))) (wV c) (inG (blk I) (row I))

theorem read_m (c : Dev nD) (I : Fin 512) : (sW.access mRect).read (Elt Ideal) (sB (sV xV wV) c) (ix3 (blk I) (row I) 0) = mxD xV wV c I := by
  refine Eq.trans ?_ (sV_left xV wV c (blk I) (row I))
  show sV xV wV c _ _ = _
  congr 1
  · exact Fin.ext (by show 0 + 1 * (blk I).val = _; omega)
  · funext d; apply Fin.ext
    match d with
    | ⟨0, _⟩ => rfl
    | ⟨1, _⟩ => show 0 + 1 * (row I).val = (row I).val; omega
    | ⟨2, _⟩ => rfl
theorem read_t (c : Dev nD) (I : Fin 512) : (sW.access tRect).read (Elt Ideal) (sB (sV xV wV) c) (ix3 (blk I) (row I) 0) = smD xV wV c I := by
  refine Eq.trans ?_ (sV_right xV wV c (blk I) (row I))
  show sV xV wV c _ _ = _
  congr 1
  · exact Fin.ext (by show 0 + 1 * (blk I).val = _; omega)
  · funext d; apply Fin.ext
    match d with
    | ⟨0, _⟩ => rfl
    | ⟨1, _⟩ => show 0 + 1 * (row I).val = (row I).val; omega
    | ⟨2, _⟩ => rfl
theorem read_m' (c : Dev nD) (I : Fin 512) : (rW.access mRect).read (Elt Ideal) (sB (sV xV wV) c) (ix3 (blk I) (row I) 0) = mxD xV wV c I :=
  read_m xV wV c I
theorem read_t' (c : Dev nD) (I : Fin 512) : (rW.access tRect).read (Elt Ideal) (sB (sV xV wV) c) (ix3 (blk I) (row I) 0) = smD xV wV c I :=
  read_t xV wV c I

theorem word_y0 (c : Dev nD) : (hy c).val = 0 → Scalar.cmpi .eq (Scalar.remsi (Scalar.divsi (Dev.word c) 4#32) 2#32) 0#32 = 1#1 := by
  revert c; decide +kernel
theorem word_y1 (c : Dev nD) : (hy c).val ≠ 0 → Scalar.cmpi .eq (Scalar.remsi (Scalar.divsi (Dev.word c) 4#32) 2#32) 0#32 = 0#1 := by
  revert c; decide +kernel

theorem colM_at (c : Dev nD) (I : Fin 512) :
    colM ((sW.access mRect).read (Elt Ideal) (sB (sV xV wV) c)) ((sW.access tRect).read (Elt Ideal) (sB (sV xV wV) c))
      ((rW.access mRect).read (Elt Ideal) (sB (sV xV wV) (yp c))) ((rW.access tRect).read (Elt Ideal) (sB (sV xV wV) (yp c))) (ix3 (blk I) (row I) 0)
      = facM (mxD xV wV c I) (smD xV wV c I) (mxD xV wV (yp c) I) (smD xV wV (yp c) I) := by
  unfold colM; rw [read_m, read_t, read_m', read_t']
theorem colP_at (c : Dev nD) (I : Fin 512) :
    colP ((sW.access mRect).read (Elt Ideal) (sB (sV xV wV) c)) ((sW.access tRect).read (Elt Ideal) (sB (sV xV wV) c))
      ((rW.access mRect).read (Elt Ideal) (sB (sV xV wV) (yp c))) ((rW.access tRect).read (Elt Ideal) (sB (sV xV wV) (yp c))) (ix3 (blk I) (row I) 0)
      = facP (mxD xV wV c I) (smD xV wV c I) (mxD xV wV (yp c) I) (smD xV wV (yp c) I) := by
  unfold colP; rw [read_m, read_t, read_m', read_t']

/-- The first column of the factors scales the left half: the device's own where it computes that half, its peer's elsewhere. -/
theorem fac_left (c : Dev nD) (I : Fin 512) : fac xV wV c (ix2 I 0) =
    if (hy c).val = 0 then facM (mxD xV wV c I) (smD xV wV c I) (mxD xV wV (yp c) I) (smD xV wV (yp c) I)
    else facP (mxD xV wV c I) (smD xV wV c I) (mxD xV wV (yp c) I) (smD xV wV (yp c) I) := by
  unfold fac
  refine (pay53_left _ _ _ _ _ I).trans ?_
  split
  · rw [word_y0 c ‹_›]; exact colM_at xV wV c I
  · rw [word_y1 c ‹_›]; exact colP_at xV wV c I
theorem fac_right (c : Dev nD) (I : Fin 512) : fac xV wV c (ix2 I 128) =
    if (hy c).val = 0 then facP (mxD xV wV c I) (smD xV wV c I) (mxD xV wV (yp c) I) (smD xV wV (yp c) I)
    else facM (mxD xV wV c I) (smD xV wV c I) (mxD xV wV (yp c) I) (smD xV wV (yp c) I) := by
  unfold fac
  refine (pay53_right _ _ _ _ _ I).trans ?_
  split
  · rw [word_y0 c ‹_›]; exact colP_at xV wV c I
  · rw [word_y1 c ‹_›]; exact colM_at xV wV c I
end Fac

end Cert.KernelIdeal.Talk

end
-- ==== Proof.Value.lean ====
/-
  The kernel's result at the extended reals, at an index: an exponential times its row's factor.
-/
module

public import proofs.«01_k».proof.Proof.Factor
public import proofs.«01_k».proof.Proof.Region0
public import proofs.«01_k».proof.Proof.Region1

@[expose] public section

set_option maxRecDepth 4096

noncomputable section

namespace Cert.KernelIdeal.Talk

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.ValueIdx
open Idealize.ShloMosaic.Pipeline (Dat)

variable (m : (ℓ : Loc nD τ sig) → Buf (Elt Ideal) ℓ) (c : Dev nD)

/-- A device's two arguments. -/
def X : S512x1024.Idx → EReal := m ((c : Thread nD τ).loc main_arg0)
def W : S1024x8192.Idx → EReal := m ((c : Thread nD τ).loc main_arg1)

theorem xV_at (I : Fin 512) (k : Fin 1024) : xV m c (grp (blk I)) (ix2 (inG (blk I) (row I)) k) = X m c (ix2 I k) := by
  unfold xV
  refine congrArg (X m c) (funext fun d => Fin.ext ?_)
  match d with
  | ⟨0, _⟩ =>
    show 128 * (I.val / 32 / 4) + 1 * (32 * (I.val / 32 % 4) + I.val % 32) = I.val
    omega
  | ⟨1, _⟩ =>
    show 0 + 1 * k.val = k.val
    omega
theorem wV_at (k : Fin 1024) (j : Fin 8192) : wV m c (ix2 k j) = W m c (ix2 k j) := by
  unfold wV
  refine congrArg (W m c) (funext fun d => Fin.ext ?_)
  match d with
  | ⟨0, _⟩ =>
    show 0 + 1 * k.val = k.val
    omega
  | ⟨1, _⟩ =>
    show 0 + 1 * j.val = j.val
    omega

theorem dot_eq (I : Fin 512) : dotR (xV m c (grp (blk I))) (wV m c) (inG (blk I) (row I)) = dotR (X m c) (W m c) I :=
  funext fun j => Finset.sum_congr rfl fun k _ => congrArg₂ (· * ·) (xV_at m c I k) (wV_at m c k j)
theorem max_eq (I : Fin 512) : maxR (xV m c (grp (blk I))) (wV m c) (inG (blk I) (row I)) = maxR (X m c) (W m c) I := by
  unfold maxR; rw [dot_eq]
theorem exp_eq (I : Fin 512) : expR (xV m c (grp (blk I))) (wV m c) (inG (blk I) (row I)) = expR (X m c) (W m c) I := by
  unfold expR; rw [max_eq, dot_eq]
theorem sum_eq (I : Fin 512) : sumR (xV m c (grp (blk I))) (wV m c) (inG (blk I) (row I)) = sumR (X m c) (W m c) I := by
  unfold sumR; rw [exp_eq]
theorem mxD_eq (I : Fin 512) : mxD (xV m) (wV m) c I = maxR (X m c) (W m c) I := max_eq m c I
theorem smD_eq (I : Fin 512) : smD (xV m) (wV m) c I = sumR (X m c) (W m c) I := sum_eq m c I

def col (J : Fin 16384) : Fin 8192 := ⟨J.val % 8192, by omega⟩

theorem eA_at (I : Fin 512) (J : Fin 16384) : eA (eV (xV m) (wV m)) c (ix2 I J) = expR (X m c) (W m c) I (col J) :=
  ((congrArg (eV (xV m) (wV m) c (blk I)) (funext fun d => match d with | ⟨0, _⟩ => rfl | ⟨1, _⟩ => rfl | ⟨2, _⟩ => rfl)).trans
    (eV_at (xV m) (wV m) c (blk I) (row I) (col J))).trans (congrFun (exp_eq m c I) _)

theorem out_at (I : Fin 512) (J : Fin 16384) : out m c (ix2 I J)
    = if J.val / 8192 = (hy c).val then expR (X m c) (W m c) I (col J)
      else expR (X m (yp (who c (blk I)))) (W m (yp (who c (blk I)))) I (col J) := by
  rw [← eA_at, ← eA_at]; rfl

/-- The factors' column for a column of the result. -/
def fcol (J : Fin 16384) : Fin 256 := if J.val < 8192 then 0 else 128

theorem pay1_col (v : FVec Ideal S128x1 .f32) (e : FVec Ideal S128x8192 .bf16) (a : Fin 128) (j : Fin 8192) :
    k1_pay1 (F := Ideal) v e (ix2 a j) = e (ix2 a j) * v (ix2 a 0) := by
  refine congrArg₂ (· * ·) (congrFun (shapeCast_self e _) _) ?_
  exact (col_bcast _ a j).trans (congrFun (shapeCast_self v _) _)
theorem pay2_col (v : FVec Ideal S128x1 .f32) (e : FVec Ideal S128x8192 .bf16) (a : Fin 128) (j : Fin 8192) :
    k1_pay2 (F := Ideal) v e (ix2 a j) = e (ix2 a j) * v (ix2 a 0) := pay1_col v e a j

/-- An index of a block put together from its two coordinates. -/
theorem pair {n k : ℕ} (y : (⟨2, ![n, k]⟩ : Shape).Idx) : y = ix2 (y 0) (y 1) :=
  funext fun d => match d with | ⟨0, _⟩ => rfl | ⟨1, _⟩ => rfl

def prodV (e : S128x16384.Idx → EReal) (f : S128x256.Idx → EReal) : S128x16384.Idx → Elt Ideal .f32 :=
  fun y => (e y * f (ix2 (y 0) (fcol (y 1))) : EReal)

theorem nrm_at (e : S128x16384.Idx → EReal) (f : S128x256.Idx → EReal) (y : S128x16384.Idx) :
    nrm (F := Ideal) e f y = prodV e f y := by
  refine View.canon_apply_of_pieces (prodV e f) _ ?_ y (halves y _ _)
  intro p hp
  rcases List.mem_cons.mp hp with rfl | hp
  · intro x
    obtain ⟨a, j, rfl⟩ : ∃ a j, x = ix2 (n0 := 128) (n1 := 8192) a j := ⟨x 0, x 1, pair (n := 128) (k := 8192) x⟩
    refine (pay2_col _ _ a j).trans ?_
    have h0 : halfR.emb (ix2 (n0 := 128) (n1 := 8192) a j) = ix2 a ⟨8192 + j.val, by omega⟩ := funext fun d => Fin.ext (match d with
      | ⟨0, _⟩ => by show 0 + 1 * a.val = a.val; omega
      | ⟨1, _⟩ => by show 8192 + 1 * j.val = 8192 + j.val; omega)
    have h1 : col1.emb (ix2 (n0 := 128) (n1 := 1) a 0) = ix2 a (128 : Fin 256) := funext fun d => Fin.ext (match d with
      | ⟨0, _⟩ => by show 0 + 1 * a.val = a.val; omega
      | ⟨1, _⟩ => rfl)
    have h2 : fcol ⟨8192 + j.val, by omega⟩ = 128 := if_neg (by show ¬ 8192 + j.val < 8192; omega)
    refine Eq.trans (congrArg₂ (fun (u v : EReal) => u * v) (congrArg e h0) (congrArg f h1)) ?_
    refine Eq.trans ?_ (congrArg (prodV e f) h0).symm
    exact congrArg (fun q => e (ix2 a ⟨8192 + j.val, by omega⟩) * f (ix2 a q)) h2.symm
  · rw [List.mem_singleton] at hp
    subst hp
    intro x
    obtain ⟨a, j, rfl⟩ : ∃ a j, x = ix2 (n0 := 128) (n1 := 8192) a j := ⟨x 0, x 1, pair (n := 128) (k := 8192) x⟩
    refine (pay1_col _ _ a j).trans ?_
    have h0 : halfL.emb (ix2 (n0 := 128) (n1 := 8192) a j) = ix2 a ⟨j.val, by omega⟩ := funext fun d => Fin.ext (match d with
      | ⟨0, _⟩ => by show 0 + 1 * a.val = a.val; omega
      | ⟨1, _⟩ => by show 0 + 1 * j.val = j.val; omega)
    have h1 : col0.emb (ix2 (n0 := 128) (n1 := 1) a 0) = ix2 a (0 : Fin 256) := funext fun d => Fin.ext (match d with
      | ⟨0, _⟩ => by show 0 + 1 * a.val = a.val; omega
      | ⟨1, _⟩ => rfl)
    have h2 : fcol ⟨j.val, by omega⟩ = 0 := if_pos j.isLt
    refine Eq.trans (congrArg₂ (fun (u v : EReal) => u * v) (congrArg e h0) (congrArg f h1)) ?_
    refine Eq.trans ?_ (congrArg (prodV e f) h0).symm
    exact congrArg (fun q => e (ix2 a ⟨j.val, by omega⟩) * f (ix2 a q)) h2.symm

/-! ## The two kernels' results, whole -/

theorem factors : (dat0 m c).arrAt 2 cfg0.N = fac (xV m) (wV m) c := by
  refine (dat0 m c).arrAt_eq_of_after_last 2 ⟨0, by decide⟩ (by decide +kernel) _ fun j => ?_
  rfl

/-- The result: the gathered exponentials times their rows' factors. -/
def res : S512x16384.Idx → Elt Ideal .f32 :=
  fun i => (out m c i * fac (xV m) (wV m) c (ix2 (i 0) (fcol (i 1))) : EReal)

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)

theorem at_row (t : Fin cfg1.N) (y : S128x16384.Idx) :
    ((cfg1.win 1).blk t).view.emb (ix2 (n0 := 128) (n1 := 256) (y 0) (fcol (y 1)))
      = ix2 (n0 := 512) (n1 := 256) ((((cfg1.win 2).blk t).view.emb y) 0) (fcol ((((cfg1.win 2).blk t).view.emb y) 1)) := by
  have h0 : ((((cfg1.win 1).blk t).view.emb (ix2 (n0 := 128) (n1 := 256) (y 0) (fcol (y 1)))) 0).val = ((((cfg1.win 2).blk t).view.emb y) 0).val := by
    refine (Pipeline.Window.rect_emb_val win1_1 t _ 0).trans ?_
    refine Eq.trans ?_ (Pipeline.Window.rect_emb_val win1_2 t y 0).symm
    rw [idx1_1, idx1_2]
    rfl
  have h1 : ((((cfg1.win 1).blk t).view.emb (ix2 (n0 := 128) (n1 := 256) (y 0) (fcol (y 1)))) 1).val = (fcol (y 1)).val := by
    refine (Pipeline.Window.rect_emb_val win1_1 t _ 1).trans ?_
    rw [idx1_1]
    show 0 * 256 + (fcol (y 1)).val = _
    omega
  have h2 : ((((cfg1.win 2).blk t).view.emb y) 1).val = (y 1).val := by
    refine (Pipeline.Window.rect_emb_val win1_2 t y 1).trans ?_
    rw [idx1_2]
    show 0 * 16384 + (y 1).val = _
    omega
  have h3 : fcol (y 1) = fcol ((((cfg1.win 2).blk t).view.emb y) 1) := congrArg fcol (Fin.ext h2.symm)
  refine funext fun d => Fin.ext ?_
  match d with
  | ⟨0, _⟩ => exact h0
  | ⟨1, _⟩ => exact h1.trans (congrArg Fin.val h3)

theorem result : (dat1 m c).arrAt 2 cfg1.N = res m c := by
  refine (dat1 m c).arrAt_eq_of_covers 2 (res m c) (by decide +kernel) fun t hf y => ?_
  blk_simp
  rw [after1_2]
  refine (nrm_at _ _ y).trans ?_
  have e0 : eT m c t y = out m c (((cfg1.win 2).blk t).view.emb y) := by
    unfold eT
    rw [W1_v1_0]
    rfl
  have e1 : fT m c t (ix2 (y 0) (fcol (y 1))) = fac (xV m) (wV m) c (ix2 ((((cfg1.win 2).blk t).view.emb y) 0) (fcol ((((cfg1.win 2).blk t).view.emb y) 1))) := by
    unfold fT
    rw [W1_v1_1, factors]
    exact congrArg (fac (xV m) (wV m) c) (at_row t y)
  exact congrArg₂ (fun (u v : EReal) => u * v) e0 e1

end Cert.KernelIdeal.Talk

end
-- ==== Proof.RefValue.lean ====
/-
  The reference's result at the extended reals, read entry by entry: an exponential below the row's maximum over the row's sum
  of them.
-/
module

public import proofs.«01_k».proof.Proof.Local
public import proofs.«01_k».proof.Proof.Gen.ReferenceIdeal.Run
public import Idealize.ShloMosaic.Lib.IdealHost
public import Idealize.ShloMosaic.Lib.StackMember

@[expose] public section

set_option maxRecDepth 4096

noncomputable section

namespace Cert.RefValue

open Idealize.ShloMosaic hiding ix1 ix2 ix3
open Idealize.ShloMosaic.TcCoe Idealize.ShloMosaic.ValueIdx
open Cert.ReferenceIdeal Cert.ReferenceIdeal.Gen
open Cert.KernelIdeal.Talk (dotR maxR expR sumR bits_bot)

variable (x : S512x1024.Idx → EReal) (w : S1024x16384.Idx → EReal)

theorem bits_zero : (FloatOps.ofBits (F := Ideal) .f32 0x00000000#32 : EReal) = 0 := by
  show Ideal.ofBits .f32 0x00000000#32 = 0
  exact Ideal.ofBits_zero_f32

/-- The reference's stages. -/
def dots : FVec Ideal S512x16384 .f32 :=
  Host.dotGeneral (F := Ideal) (φ₁ := .f32) (φ₂ := .f32) dot_S512x1024_S1024x16384_S512x16384_1_0_0_1_n_n none x w
def rows (v : FVec Ideal S512 .f32) : FVec Ideal S512x16384 .f32 :=
  broadcastInDim S512x16384 ![0, 1] bcast_S512x1_S512x16384_0_1 (broadcastInDim S512x1 ![0] bcast_S512_S512x1_0 v)
def maxs : FVec Ideal S512 .f32 :=
  Host.reduce (FloatOps.maximumf (F := Ideal) (φ := .f32)) (dots x w) (constant (F := Ideal) S_ .f32 0xFF800000#32) reducesTo_S512x16384_S512_d1 h_S_
def exps : FVec Ideal S512x16384 .f32 := Host.exp (subf (dots x w) (rows (maxs x w)))
def sums : FVec Ideal S512 .f32 := Host.reduceAdd (exps x w) (constant (F := Ideal) S_ .f32 0x00000000#32) reducesTo_S512x16384_S512_d1 h_S_
def val : FVec Ideal S512x16384 .f32 := Host.divf (exps x w) (rows (sums x w))

theorem dots_at (I : Fin 512) (J : Fin 16384) : dots x w (ix2 I J) = dotR x w I J :=
  StackMember.dotGeneral_plain_apply (m := 512) (n := 16384) (k := 1024) (φ₁ := .f32) (φ₂ := .f32) none x w I J

theorem rows_at (v : FVec Ideal S512 .f32) (I : Fin 512) (J : Fin 16384) : rows v (ix2 I J) = v (ix1 I) := by
  refine (broadcastInDim_apply _ _ _ _ (ix2 I (0 : Fin 1)) fun d => match d with | ⟨0, _⟩ => rfl | ⟨1, _⟩ => rfl).trans ?_
  exact broadcastInDim_apply _ _ _ _ (ix1 I) fun d => match d with | ⟨0, _⟩ => rfl

theorem reduces_row : S512x16384.Reduces [1] S512 := by decide
theorem lift_row (h : S512x16384.Reduces [1] S512) (I : Fin 512) (J : Fin 16384) : h.lift (ix1 I) J = ix2 I J := by
  funext d; apply Fin.ext
  match d with
  | ⟨0, _⟩ => rfl
  | ⟨1, _⟩ => rfl

theorem maxs_at (I : Fin 512) : maxs x w (ix1 I) = maxR x w I := by
  unfold maxs
  refine (Host.reduce_eq_fold_single (FloatOps.maximumf (F := Ideal) (φ := .f32)) (dots x w) _ _ reduces_row h_S_ (ix1 I)).trans ?_
  have e : constant (F := Ideal) S_ .f32 0xFF800000#32 (Shape.Idx.first h_S_) = (⊥ : EReal) := bits_bot
  rw [e]
  unfold maxR
  refine Finset.fold_congr fun J _ => ?_
  exact (congrArg (dots x w) (lift_row _ I J)).trans (dots_at x w I J)

theorem exps_at (I : Fin 512) (J : Fin 16384) : exps x w (ix2 I J) = expR x w I J := by
  have e : exps x w (ix2 I J) = Ideal.exp (dots x w (ix2 I J) - rows (maxs x w) (ix2 I J)) := rfl
  exact e.trans (congrArg Ideal.exp (congrArg₂ (fun u v : EReal => u - v) (dots_at x w I J) ((rows_at _ I J).trans (maxs_at x w I))))

theorem sums_at (I : Fin 512) : sums x w (ix1 I) = 0 + sumR x w I := by
  unfold sums
  refine (hostReduceAdd_apply _ _ _ _ _).trans ((Ideal.hostReduceAdd_single _ reduces_row _ _ _).trans ?_)
  have e : constant (F := Ideal) S_ .f32 0x00000000#32 (Shape.Idx.first h_S_) = (0 : EReal) := bits_zero
  refine congrArg₂ (fun u v : EReal => u + v) e ?_
  unfold sumR
  refine Finset.sum_congr rfl fun J _ => ?_
  exact (congrArg (exps x w) (lift_row _ I J)).trans (exps_at x w I J)

theorem val_at (I : Fin 512) (J : Fin 16384) : val x w (ix2 I J) = Ideal.div (expR x w I J) (0 + sumR x w I) := by
  have e : val x w (ix2 I J) = Ideal.div (exps x w (ix2 I J)) (rows (sums x w) (ix2 I J)) := by
    unfold val; exact hostDivf_apply (exps x w) (rows (sums x w)) (ix2 I J)
  exact e.trans (congrArg₂ Ideal.div (exps_at x w I J) ((rows_at _ I J).trans (sums_at x w I)))

open Idealize.SL.Sem in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = val (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.RefValue

end
-- ==== Proof.Reals.lean ====
/-
  With finite arguments both programs' results are one real number at every index: the exponential of the product over the sum
  of the row's exponentials.
-/
module

public import proofs.«01_k».proof.Proof.Value
public import proofs.«01_k».proof.Proof.RefValue

@[expose] public section

set_option maxRecDepth 4096

noncomputable section

namespace Cert.KernelIdeal.Talk

open Idealize.ShloMosaic hiding ix1 ix2 ix3
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Idealize.ShloMosaic.ValueIdx

/-- Column `j` of half `h`. -/
def at2 (h : Fin 2) (j : Fin 8192) : Fin 16384 := ⟨8192 * h.val + j.val, by omega⟩
theorem at2_col (J : Fin 16384) (h : Fin 2) (e : J.val / 8192 = h.val) : at2 h (col J) = J :=
  Fin.ext (by show 8192 * h.val + J.val % 8192 = J.val; omega)

theorem sum_halves (f : Fin 16384 → ℝ) : ∑ J, f J = ∑ j, f (at2 0 j) + ∑ j, f (at2 1 j) := by
  refine (Fin.sum_univ_add (a := 8192) (b := 8192) f).trans ?_
  refine congrArg₂ (· + ·) (Finset.sum_congr rfl fun j _ => congrArg f (Fin.ext ?_)) (Finset.sum_congr rfl fun j _ => congrArg f (Fin.ext ?_))
  · show j.val = 8192 * 0 + j.val; omega
  · show 8192 + j.val = 8192 * 1 + j.val; omega

section Facts
variable (xV : Dev nD → Fin 4 → FVec Ideal S128x1024 .f32) (wV : Dev nD → FVec Ideal S1024x8192 .f32)

/-- A row's factor on a device for a column: of the device's own half, or of the other. -/
theorem fac_at (c : Dev nD) (I : Fin 512) (J : Fin 16384) : fac xV wV c (ix2 I (fcol J)) =
    if J.val / 8192 = (hy c).val then facM (mxD xV wV c I) (smD xV wV c I) (mxD xV wV (yp c) I) (smD xV wV (yp c) I)
    else facP (mxD xV wV c I) (smD xV wV c I) (mxD xV wV (yp c) I) (smD xV wV (yp c) I) := by
  have hc := (hy c).isLt
  by_cases h : J.val < 8192
  · have e : fcol J = 0 := if_pos h
    rw [e, fac_left]
    by_cases h' : (hy c).val = 0
    · rw [if_pos h', if_pos (by omega)]
    · rw [if_neg h', if_neg (by omega)]
  · have e : fcol J = 128 := if_neg h
    rw [e, fac_right]
    by_cases h' : (hy c).val = 0
    · rw [if_pos h', if_neg (by omega)]
    · rw [if_neg h', if_pos (by omega)]
end Facts

/-- The product at an index, of real arguments. -/
def lgt (x : Fin 512 → Fin 1024 → ℝ) (w : Fin 1024 → Fin 16384 → ℝ) (I : Fin 512) (J : Fin 16384) : ℝ := ∑ k, x I k * w k J

theorem dot_real {N : ℕ} (X : S512x1024.Idx → EReal) (W : (⟨2, ![1024, N]⟩ : Shape).Idx → EReal) (x : Fin 512 → Fin 1024 → ℝ) (w : Fin 1024 → Fin N → ℝ)
    (hX : ∀ I k, X (ix2 I k) = (x I k : EReal)) (hW : ∀ k j, W (ix2 k j) = (w k j : EReal)) (I : Fin 512) (j : Fin N) :
    dotR X W I j = ((∑ k, x I k * w k j : ℝ) : EReal) := by
  unfold dotR
  rw [← Soft.coe_sum]
  exact Finset.sum_congr rfl fun k _ => by rw [hX, hW, EReal.coe_mul]

/-- A row of real products: its maximum is a real number, and its exponentials and sum are those below it. -/
theorem row_real {N : ℕ} (hN : 0 < N) (X : S512x1024.Idx → EReal) (W : (⟨2, ![1024, N]⟩ : Shape).Idx → EReal) (I : Fin 512) (l : Fin N → ℝ)
    (h : ∀ j, dotR X W I j = (l j : EReal)) : ∃ M : ℝ, maxR X W I = (M : EReal)
      ∧ (∀ j, expR X W I j = Ideal.exp ((l j : EReal) - (M : EReal))) ∧ sumR X W I = ∑ j, Ideal.exp ((l j : EReal) - (M : EReal)) := by
  have : Nonempty (Fin N) := ⟨⟨0, hN⟩⟩
  obtain ⟨M, hM⟩ := Soft.max_coe l
  have h1 : maxR X W I = (M : EReal) := by
    unfold maxR; rw [← hM]; exact Finset.fold_congr fun j _ => h j
  have h2 : ∀ j, expR X W I j = Ideal.exp ((l j : EReal) - (M : EReal)) := fun j => by unfold expR; rw [h1, h]
  exact ⟨M, h1, h2, Finset.sum_congr rfl fun j _ => h2 j⟩

theorem hy_yp_val : ∀ c : Dev nD, (hy (yp c)).val = 1 - (hy c).val := by decide +kernel
theorem hy_who : ∀ (c : Dev nD) (r : Fin 16), (hy (who c r)) = hy c := by decide +kernel

section Kernel
variable (m : (ℓ : Loc nD τ sig) → Buf (Elt Ideal) ℓ) (x : Fin 512 → Fin 1024 → ℝ) (w : Fin 1024 → Fin 16384 → ℝ)
  (hX : ∀ c I k, X m c (ix2 I k) = (x I k : EReal)) (hW : ∀ c k j, W m c (ix2 k j) = (w k (at2 (hy c) j) : EReal))
include hX hW

theorem dot_dev (c : Dev nD) (I : Fin 512) (j : Fin 8192) : dotR (X m c) (W m c) I j = (lgt x w I (at2 (hy c) j) : EReal) :=
  dot_real (X m c) (W m c) x (fun k j => w k (at2 (hy c) j)) (hX c) (hW c) I j

/-- One maximum per half, the same on every device of the half. -/
theorem rows_dev (I : Fin 512) : ∃ M : Fin 2 → ℝ, ∀ c, maxR (X m c) (W m c) I = (M (hy c) : EReal)
    ∧ (∀ j, expR (X m c) (W m c) I j = Ideal.exp ((lgt x w I (at2 (hy c) j) : EReal) - (M (hy c) : EReal)))
    ∧ sumR (X m c) (W m c) I = ∑ j, Ideal.exp ((lgt x w I (at2 (hy c) j) : EReal) - (M (hy c) : EReal)) := by
  have key : ∀ h : Fin 2, ∃ r : ℝ, Finset.univ.fold max (⊥ : EReal) (fun j => (lgt x w I (at2 h j) : EReal)) = (r : EReal) :=
    fun h => Soft.max_coe _
  choose M hM using key
  refine ⟨M, fun c => ?_⟩
  obtain ⟨M', h1, h2, h3⟩ := row_real (by decide) (X m c) (W m c) I (fun j => lgt x w I (at2 (hy c) j)) (dot_dev m x w hX hW c I)
  have e : M' = M (hy c) := by
    have : (M' : EReal) = (M (hy c) : EReal) := by
      rw [← h1, ← hM]; unfold maxR; exact Finset.fold_congr fun j _ => dot_dev m x w hX hW c I j
    exact_mod_cast this
  subst e
  exact ⟨h1, h2, h3⟩

theorem res_at (c : Dev nD) (I : Fin 512) (J : Fin 16384) :
    res m c (ix2 I J) = ((Real.exp (lgt x w I J) / ∑ K, Real.exp (lgt x w I K) : ℝ) : EReal) := by
  obtain ⟨M, hM⟩ := rows_dev m x w hX hW I
  have hsum : ∑ j, Real.exp (lgt x w I (at2 (hy c) j)) + ∑ j, Real.exp (lgt x w I (at2 (hy (yp c)) j)) = ∑ K, Real.exp (lgt x w I K) := by
    rw [sum_halves]
    have hv := hy_yp_val c
    rcases (by omega : (hy c).val = 0 ∨ (hy c).val = 1) with h | h
    · rw [show hy c = 0 from Fin.ext h, show hy (yp c) = 1 from Fin.ext (by rw [hv, h]; rfl)]
    · rw [show hy c = 1 from Fin.ext h, show hy (yp c) = 0 from Fin.ext (by rw [hv, h]; rfl), add_comm]
  have e0 : res m c (ix2 I J) = (out m c (ix2 I J) * fac (xV m) (wV m) c (ix2 I (fcol J)) : EReal) := rfl
  rw [e0, fac_at, out_at, ← hsum]
  obtain ⟨a1, -, a3⟩ := hM c
  obtain ⟨b1, -, b3⟩ := hM (yp c)
  rw [mxD_eq, mxD_eq, smD_eq, smD_eq, a1, a3, b1, b3]
  by_cases h : J.val / 8192 = (hy c).val
  · rw [if_pos h, if_pos h, (hM c).2.1, at2_col J _ h]
    unfold facM bothS
    exact Soft.halves _ _ _ _ _
  · have hJ := J.isLt
    have hc := (hy c).isLt
    have e1 : hy (yp (who c (blk I))) = hy (yp c) := Fin.ext (by rw [hy_yp_val, hy_yp_val, hy_who])
    have h' : J.val / 8192 = (hy (yp c)).val := by rw [hy_yp_val]; omega
    rw [if_neg h, if_neg h, (hM (yp (who c (blk I)))).2.1, e1, at2_col J _ h']
    unfold facP bothS
    exact Soft.halves' _ _ _ _ _
end Kernel

theorem ref_at (X : S512x1024.Idx → EReal) (W : (⟨2, ![1024, 16384]⟩ : Shape).Idx → EReal) (x : Fin 512 → Fin 1024 → ℝ) (w : Fin 1024 → Fin 16384 → ℝ)
    (hX : ∀ I k, X (ix2 I k) = (x I k : EReal)) (hW : ∀ k j, W (ix2 k j) = (w k j : EReal)) (I : Fin 512) (J : Fin 16384) :
    RefValue.val X W (ix2 I J) = ((Real.exp (lgt x w I J) / ∑ K, Real.exp (lgt x w I K) : ℝ) : EReal) := by
  obtain ⟨M, -, h2, h3⟩ := row_real (by decide) X W I (lgt x w I) (dot_real X W x w hX hW I)
  rw [RefValue.val_at, h2, h3]
  have : Nonempty (Fin 16384) := ⟨0⟩
  exact Soft.whole _ _ _

end Cert.KernelIdeal.Talk

end
-- ==== Proof.Algebra.lean ====
/-
  The value claim: with finite arguments the kernel leaves on every device what the reference computes of the whole arrays.
-/
module

public import proofs.«01_k».proof.Defs
public import proofs.«01_k».proof.Proof.Frames
public import proofs.«01_k».proof.Proof.Reals

@[expose] public section

set_option maxRecDepth 4096

noncomputable section

namespace Cert.Proof

open Idealize.ShloMosaic hiding ix1 ix2 ix3
open Idealize.ShloMosaic.TcCoe Idealize.SL.Sem Idealize.ShloMosaic.ValueIdx
open Cert.KernelIdeal Cert.KernelIdeal.Gen Cert.KernelIdeal.Talk

theorem finite_facts : Cert.Pre_finite_KernelIdeal.Facts := ⟨by decide, by decide⟩
theorem finite_facts_ref : Cert.Pre_finite_ReferenceIdeal.Facts := ⟨by decide, by decide⟩

theorem bits_top : (FloatOps.ofBits (F := Ideal) .f32 0x7F800000#32 : EReal) = ⊤ := by
  show Ideal.ofBits .f32 0x7F800000#32 = ⊤
  simp [Ideal.ofBits, Ideal.ieee]

/-- What the comparison tests of a number: it is real. -/
theorem real_of_lt (a : EReal) (h : Ideal.cmp .olt (max a (-a)) ⊤ = 1#1) : a = ((a.toReal : ℝ) : EReal) := by
  have hlt : max a (-a) < ⊤ := by
    by_contra hn
    simp [Ideal.cmp, hn] at h
  refine (EReal.coe_toReal (fun e => ?_) (fun e => ?_)).symm
  · subst e; simp at hlt
  · subst e; simp at hlt

section Pre
variable (m : (ℓ : Loc nD τ sig) → Buf (Elt Ideal) ℓ)

theorem real_args (h : Cert.Pre_KernelIdeal_finite_KernelIdeal (hPre_finite_KernelIdeal := finite_facts) m) (c : Dev nD) :
    (∀ i, X m c i = (((X m c i).toReal : ℝ) : EReal)) ∧ ∀ i, W m c i = (((W m c i).toReal : ℝ) : EReal) := by
  have test : ∀ {S : Shape} (hb : (⟨0, ![]⟩ : Shape).BroadcastsInDim S ![]) (v : FVec Ideal S .f32) (i : S.Idx),
      cmpf .olt (Host.absf v) (broadcastInDim S ![] hb (constant (F := Ideal) ⟨0, ![]⟩ .f32 0x7F800000#32)) i = 1#1 → v i = (((v i).toReal : ℝ) : EReal) := by
    intro S hb v i e
    refine real_of_lt _ (Eq.trans ?_ e)
    refine Eq.trans ?_ (congrArg (Ideal.cmp .olt (max (v i) (-(v i)))) (broadcastInDim_scalar_apply hb _ i).symm)
    exact congrArg (Ideal.cmp .olt (max (v i) (-(v i)))) bits_top.symm
  exact ⟨fun i => test finite_facts.bcast_S_S512x1024 (X m c) i (congrFun (h c).1 i),
    fun i => test finite_facts.bcast_S_S1024x8192 (W m c) i (congrFun (h c).2 i)⟩
end Pre

/-- A device's block of the second argument: the columns of its half. -/
theorem block_at (v : (⟨2, ![1024, 16384]⟩ : Shape).Idx → EReal) (c : Dev nD) (k : Fin 1024) (j : Fin 8192) :
    (Layout.blockN ⟨2, ![1024, 8192]⟩ ⟨2, ![1024, 16384]⟩ (Layout.meshBlock [2, 2, 4] ![[], [1]] c) v : S1024x8192.Idx → EReal) (ix2 k j) = v (ix2 k (at2 (hy c) j)) := by
  rw [Layout.blockN_apply]
  refine congrArg v (funext fun d => Fin.ext ?_)
  match d with
  | ⟨0, _⟩ => show 0 * 1024 + k.val = k.val; omega
  | ⟨1, _⟩ =>
    show (c.val / 4 % 2 * 1 + 0) * 8192 + j.val = 8192 * (c.val / 4 % 2) + j.val
    omega

theorem hy_four (h : Fin 2) : ∃ c : Dev nD, hy c = h := by revert h; decide

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := finite_facts) := by
  intro m g m' g' hpre harg
  let x0 : S512x1024.Idx → EReal := m' (((0 : Dev Cert.ReferenceIdeal.nD).tc : Thread Cert.ReferenceIdeal.nD Cert.ReferenceIdeal.τ).loc Cert.ReferenceIdeal.main_arg0)
  let w0 : (⟨2, ![1024, 16384]⟩ : Shape).Idx → EReal := m' (((0 : Dev Cert.ReferenceIdeal.nD).tc : Thread Cert.ReferenceIdeal.nD Cert.ReferenceIdeal.τ).loc Cert.ReferenceIdeal.main_arg1)
  have hx0 : ∀ c, X m c = x0 := fun c => (harg c).1
  have hw0 : ∀ c k j, W m c (ix2 k j) = w0 (ix2 k (at2 (hy c) j)) := fun c k j =>
    (congrFun (harg c).2 (ix2 k j)).trans (block_at w0 c k j)
  let x : Fin 512 → Fin 1024 → ℝ := fun I k => (x0 (ix2 I k)).toReal
  let w : Fin 1024 → Fin 16384 → ℝ := fun k J => (w0 (ix2 k J)).toReal
  have hx : ∀ I k, x0 (ix2 I k) = (x I k : EReal) := fun I k => by
    have := (real_args m hpre 0).1 (ix2 I k)
    rw [hx0] at this
    exact this
  have hw : ∀ k J, w0 (ix2 k J) = (w k J : EReal) := fun k J => by
    obtain ⟨c, hc⟩ := hy_four ⟨J.val / 8192, by omega⟩
    have e := at2_col J (hy c) (by rw [hc])
    have := (real_args m hpre c).2 (ix2 k (col J))
    rw [hw0, e] at this
    exact this
  have hX : ∀ c I k, X m c (ix2 I k) = (x I k : EReal) := fun c I k => by rw [hx0]; exact hx I k
  have hW : ∀ c k j, W m c (ix2 k j) = (w k (at2 (hy c) j) : EReal) := fun c k j => by rw [hw0]; exact hw _ _
  refine ⟨Cert.RefValue.val x0 w0, ?_, ?_⟩
  · refine (θ_run _ _ _).mono (fun r h c => ⟨?_, (h.1 c).2.1, (h.1 c).2.2⟩) (run_args (F := Ideal) m g)
    refine ((h.1 c).1.trans (result m c)).trans (funext fun i => ?_)
    obtain ⟨I, J, rfl⟩ : ∃ I J, i = ix2 (n0 := 512) (n1 := 16384) I J := ⟨i 0, i 1, pair (n := 512) (k := 16384) i⟩
    exact (res_at m x w hX hW c I J).trans (ref_at x0 w0 x w hx hw I J).symm
  · exact (θ_run _ _ _).mono (fun r h => h 0) (Cert.RefValue.run m' g')

end Cert.Proof

end
-- ==== Proof.lean ====
/-
  The claims, assembled: the frames (Proof/Frames.lean) and the value (Proof/Algebra.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

theorem claim : Cert.Claim := ⟨Cert.Kernel.Gen.facts, Cert.KernelIdeal.Gen.facts, Cert.ReferenceIdeal.Gen.facts, finite_facts, finite_facts_ref,
  frame_kernel, frame_ideal, fun m g _ => frame_ideal m g trivial, frame_reference, fun m g _ => frame_reference m g trivial, trivial, algebraic⟩

end Cert.Proof

end
